-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 2]⟩ ⟨2, ![32768, 2]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 1024]⟩ ⟨3, ![128, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![32768, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .f32) (main_arg1 : FVec F S512x128 .f32) (main_arg2 : IVec S2048x2 32) (main_arg3 : FVec F S8x512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 128#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Pre_finite_and_in_range_ReferenceIdeal.lean ====
abbrev S32768x512 : Shape := ⟨2, ![32768, 512]⟩
abbrev S512x128 : Shape := ⟨2, ![512, 128]⟩
abbrev S32768x2 : Shape := ⟨2, ![32768, 2]⟩
abbrev S128x512x1024 : Shape := ⟨3, ![128, 512, 1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S32768x2 : S_.BroadcastsInDim S32768x2 (![] : Fin 0 → Fin S32768x2.rank)
  reducesTo_S32768x2_S_d0_1 : S32768x2.ReducesTo [0, 1] S_

variable [Facts]

def fn {F : FTy → Type} [FloatOps F] (main_arg0 : FVec F S32768x512 .f32) (main_arg1 : FVec F S512x128 .f32) (main_arg2 : IVec S32768x2 32) (main_arg3 : FVec F S128x512x1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_c_2 : IVec S_ 32 := constantI S_ 32 0#32
  let main_v9 : IVec S32768x2 32 := broadcastInDim S32768x2 ![] bcast_S_S32768x2 main_c_2
  let main_v10 : IVec S32768x2 1 := cmpi .sge main_arg2 main_v9
  let main_c_3 : IVec S_ 32 := constantI S_ 32 128#32
  let main_v11 : IVec S32768x2 32 := broadcastInDim S32768x2 ![] bcast_S_S32768x2 main_c_3
  let main_v12 : IVec S32768x2 1 := cmpi .slt main_arg2 main_v11
  let main_v13 : IVec S32768x2 1 := andi main_v10 main_v12
  let main_c_4 : IVec S_ 1 := constantI S_ 1 1#1
  let main_v14 : IVec S_ 1 := (fun x v => Host.reduce IntOp.andi x v reducesTo_S32768x2_S_d0_1 h_S_) main_v13 main_c_4
  let main_v15 : IVec S_ 1 := andi main_v8 main_v14
  main_v15
-- ==== Kernel.lean ====
abbrev S2048x512 : Shape := ⟨2, ![2048, 512]⟩
abbrev S512x128 : Shape := ⟨2, ![512, 128]⟩
abbrev S2048x2 : Shape := ⟨2, ![2048, 2]⟩
abbrev S8x512x1024 : Shape := ⟨3, ![8, 512, 1024]⟩
abbrev S2048x1024 : Shape := ⟨2, ![2048, 1024]⟩
abbrev S4x512x1024 : Shape := ⟨3, ![4, 512, 1024]⟩
abbrev S2048x128 : Shape := ⟨2, ![2048, 128]⟩
abbrev S_ : Shape := ⟨0, ![]⟩
abbrev S256x128 : Shape := ⟨2, ![256, 128]⟩
abbrev S256x512 : Shape := ⟨2, ![256, 512]⟩
abbrev S256x1 : Shape := ⟨2, ![256, 1]⟩
abbrev S256 : Shape := ⟨1, ![256]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x2, .i32⟩
  | .hbm, ⟨3, _⟩ => ⟨S8x512x1024, .f32⟩
  | .hbm, ⟨4, _⟩ => ⟨S2048x1024, .f32⟩
  | .local _ .vmem, ⟨0, _⟩ => ⟨S2048x512, .f32⟩
  | .local _ .vmem, ⟨1, _⟩ => ⟨S512x128, .f32⟩
  | .local _ .vmem, ⟨2, _⟩ => ⟨S2048x2, .i32⟩
  | .local _ .vmem, ⟨3, _⟩ => ⟨S8x512x1024, .f32⟩
  | .local _ .vmem, ⟨4, _⟩ => ⟨S2048x1024, .f32⟩
  | .local _ .vmem, ⟨5, _⟩ => ⟨S4x512x1024, .bf16⟩
  | .local _ .vmem, ⟨6, _⟩ => ⟨S4x512x1024, .bf16⟩
  | .local _ .vmem, ⟨7, _⟩ => ⟨S2048x128, .f32⟩
  | .local _ .vmem, ⟨8, _⟩ => ⟨S2048x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_135 : BitVec 32 := 0#32
  let c32_i32 : BitVec 32 := 32#32
  let v390 : BitVec 32 := Scalar.addi c0_i32_135 c32_i32
  let c1_i32_136 : BitVec 32 := 1#32
  ⟨c0_i32_135, v390, c1_i32_136⟩
def k0_cond1 (k0_t1 : Fin k0_t1_loop.trips) : BitVec 1 :=
  let c0_i32_135 : BitVec 32 := 0#32
  let c1_i32_136 : BitVec 32 := 1#32
  let arg12 : BitVec 32 := Scf.iv c0_i32_135 c1_i32_136 k0_t1
  let c16_i32_138 : BitVec 32 := 16#32
  let v391 : BitVec 32 := Scalar.remsi arg12 c16_i32_138
  let c0_i32_142 : BitVec 32 := 0#32
  let v397 : BitVec 1 := Scalar.cmpi .eq v391 c0_i32_142
  let v398 : BitVec 32 := Scalar.extui v397
  let c0_i32_143 : BitVec 32 := 0#32
  let v399 : BitVec 1 := Scalar.cmpi .ne v398 c0_i32_143
  v399

def k0_off1 (k0_t1 : Fin k0_t1_loop.trips) : Fin 3 → Nat :=
  let c0_i32_135 : BitVec 32 := 0#32
  let c1_i32_136 : BitVec 32 := 1#32
  let arg12 : BitVec 32 := Scf.iv c0_i32_135 c1_i32_136 k0_t1
  let c16_i32_139 : BitVec 32 := 16#32
  let v392 : BitVec 32 := Scalar.divsi arg12 c16_i32_139
  let c4_i32_493 : BitVec 32 := 4#32
  let v956 : BitVec 32 := Scalar.muli v392 c4_i32_493
  let v957 : Index := Scalar.indexCast v956
  let c0_494 : Index := 0#32
  let c0_495 : Index := 0#32
  ![v957.toNat, 0, 0]
def k0_cond2 (k0_t1 : Fin k0_t1_loop.trips) : BitVec 1 :=
  let c0_i32_135 : BitVec 32 := 0#32
  let c1_i32_136 : BitVec 32 := 1#32
  let arg12 : BitVec 32 := Scf.iv c0_i32_135 c1_i32_136 k0_t1
  let c16_i32_138 : BitVec 32 := 16#32
  let v391 : BitVec 32 := Scalar.remsi arg12 c16_i32_138
  let c14_i32 : BitVec 32 := 14#32
  let v396 : BitVec 1 := Scalar.cmpi .sle v391 c14_i32
  let v400 : BitVec 32 := Scalar.extui v396
  let c0_i32_144 : BitVec 32 := 0#32
  let v401 : BitVec 1 := Scalar.cmpi .ne v400 c0_i32_144
  v401

def k0_dev3 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_495 : BitVec 32 := 1#32
  let v959 : BitVec 32 := Scalar.muli v7 c1_i32_495
  let v960 : BitVec 32 := Scalar.addi c0_i32_496 v959
  v960.toNat
def k0_cond4 (k0_t1 : Fin k0_t1_loop.trips) : BitVec 1 :=
  let c0_i32_135 : BitVec 32 := 0#32
  let c1_i32_136 : BitVec 32 := 1#32
  let arg12 : BitVec 32 := Scf.iv c0_i32_135 c1_i32_136 k0_t1
  let c16_i32_138 : BitVec 32 := 16#32
  let v391 : BitVec 32 := Scalar.remsi arg12 c16_i32_138
  let c14_i32 : BitVec 32 := 14#32
  let v396 : BitVec 1 := Scalar.cmpi .sle v391 c14_i32
  let v954 : BitVec 32 := Scalar.extui v396
  let c0_i32_492 : BitVec 32 := 0#32
  let v955 : BitVec 1 := Scalar.cmpi .ne v954 c0_i32_492
  v955

def k0_cond5 (k0_t1 : Fin k0_t1_loop.trips) : BitVec 1 :=
  let c0_i32_135 : BitVec 32 := 0#32
  let c1_i32_136 : BitVec 32 := 1#32
  let arg12 : BitVec 32 := Scf.iv c0_i32_135 c1_i32_136 k0_t1
  let c29_i32 : BitVec 32 := 29#32
  let v962 : BitVec 1 := Scalar.cmpi .sle arg12 c29_i32
  let v963 : BitVec 32 := Scalar.extui v962
  let c0_i32_502 : BitVec 32 := 0#32
  let v964 : BitVec 1 := Scalar.cmpi .ne v963 c0_i32_502
  v964

def k0_dev4 (d0 : Dev nD) : Nat :=
  let c0_i32_505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_504 : BitVec 32 := 1#32
  let v965 : BitVec 32 := Scalar.muli v5 c1_i32_504
  let v966 : BitVec 32 := Scalar.addi c0_i32_505 v965
  v966.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32768x512 : Shape := ⟨2, ![32768, 512]⟩
abbrev S512x128 : Shape := ⟨2, ![512, 128]⟩
abbrev S32768x2 : Shape := ⟨2, ![32768, 2]⟩
abbrev S128x512x1024 : Shape := ⟨3, ![128, 512, 1024]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S32768x512x1024 : Shape := ⟨3, ![32768, 512, 1024]⟩
abbrev S32768x1024 : Shape := ⟨2, ![32768, 1024]⟩

abbrev nBuf : Space → Nat
  | .hbm => 87
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x128, .f32⟩
  | .hbm, ⟨2, _⟩ => ⟨S32768x2, .i32⟩
  | .hbm, ⟨3, _⟩ => ⟨S128x512x1024, .f32⟩
  | .hbm, ⟨4, _⟩ => ⟨S32768x128, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x128, .f32⟩
  | .hbm, ⟨9, _⟩ => ⟨S32768x128, .f32⟩
  | .hbm, ⟨10, _⟩ => ⟨S32768x128, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x128, .f32⟩
  | .hbm, ⟨15, _⟩ => ⟨S32768x128, .f32⟩
  | .hbm, ⟨16, _⟩ => ⟨S32768x1, .i32⟩
  | .hbm, ⟨17, _⟩ => ⟨S32768, .i32⟩
  | .hbm, ⟨18, _⟩ => ⟨S32768x1, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S32768x1, .i32⟩
  | .hbm, ⟨37, _⟩ => ⟨S32768x2, .i32⟩
  | .hbm, ⟨38, _⟩ => ⟨S32768, .f32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S_, .i32⟩
  | .hbm, ⟨47, _⟩ => ⟨S32768, .i32⟩
  | .hbm, ⟨48, _⟩ => ⟨S32768, .i1⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S32768, .i32⟩
  | .hbm, ⟨53, _⟩ => ⟨S32768x1, .i32⟩
  | .hbm, ⟨54, _⟩ => ⟨S32768x1, .i32⟩
  | .hbm, ⟨55, _⟩ => ⟨S32768x2, .i32⟩
  | .hbm, ⟨56, _⟩ => ⟨S32768, .f32⟩
  | .hbm, ⟨57, _⟩ => ⟨S32768, .f32⟩
  | .hbm, ⟨58, _⟩ => ⟨S_, .i32⟩
  | .hbm, ⟨59, _⟩ => ⟨S32768, .i32⟩
  | .hbm, ⟨60, _⟩ => ⟨S32768, .i1⟩
  | .hbm, ⟨61, _⟩ => ⟨S_, .i32⟩
  | .hbm, ⟨62, _⟩ => ⟨S32768, .i32⟩
  | .hbm, ⟨63, _⟩ => ⟨S32768, .i32⟩
  | .hbm, ⟨64, _⟩ => ⟨S32768, .i32⟩
  | .hbm, ⟨65, _⟩ => ⟨S32768x1, .i32⟩
  | .hbm, ⟨66, _⟩ => ⟨S32768x512x1024, .f32⟩
  | .hbm, ⟨67, _⟩ => ⟨S32768x1024, .f32⟩
  | .hbm, ⟨68, _⟩ => ⟨S_, .i32⟩
  | .hbm, ⟨69, _⟩ => ⟨S32768, .i32⟩
  | .hbm, ⟨70, _⟩ => ⟨S32768, .i1⟩
  | .hbm, ⟨71, _⟩ => ⟨S_, .i32⟩
  | .hbm, ⟨72, _⟩ => ⟨S32768, .i32⟩
  | .hbm, ⟨73, _⟩ => ⟨S32768, .i32⟩
  | .hbm, ⟨74, _⟩ => ⟨S32768, .i32⟩
  | .hbm, ⟨75, _⟩ => ⟨S32768x1, .i32⟩
  | .hbm, ⟨76, _⟩ => ⟨S32768x512x1024, .f32⟩
  | .hbm, ⟨77, _⟩ => ⟨S32768x1024, .f32⟩
  | .hbm, ⟨78, _⟩ => ⟨S32768, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S32768, .f32⟩
  | .hbm, ⟨83, _⟩ => ⟨S32768x1, .f32⟩
  | .hbm, ⟨84, _⟩ => ⟨S32768x1024, .f32⟩
  | .hbm, ⟨85, _⟩ => ⟨S32768x1024, .f32⟩
  | .hbm, ⟨86, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Program.lean ====
/-
# The kernel's text, tile by tile

The printed body is one long sequence of loads, stores and pure vector operations, cut into parts by length. Here it is
stated again by what it does: a barrier, eight gate tiles of 256 rows, then 32 trips; a trip is a head (weights loaded in
on the first step of a round, the transfer started), eight row tiles of 256 rows, and a tail (the transfer awaited, the
weights moved over, a credit signalled). The two texts are equal by unfolding.
-/
module

public import proofs.«01_k».proof.Proof.Gen.KernelIdeal
public import proofs.«01_k».proof.Proof.Gen.KernelIdeal.Skeleton
public import Idealize.ShloMosaic.Lib.Tactic

@[expose] public section

noncomputable section

namespace Cert.Moe

open Cert.KernelIdeal Cert.KernelIdeal.Gen
open Idealize.ShloMosaic Idealize.ShloMosaic.TcCoe Idealize.SL.Sem

variable {F : FTy → Type} [FloatOps F]

/-! ## The buffers -/

abbrev xM : Memref sig .tc .vmem S2048x512 .f32 := Memref.whole cc0_stg0_0
abbrev rwM : Memref sig .tc .vmem S512x128 .f32 := Memref.whole cc0_stg1_0
abbrev ixM : Memref sig .tc .vmem S2048x2 .i32 := Memref.whole cc0_stg2_0
abbrev ewM : Memref sig .tc .vmem S8x512x1024 .f32 := Memref.whole cc0_stg3_0
abbrev oM : Memref sig .tc .vmem S2048x1024 .f32 := Memref.whole cc0_stg4_0
abbrev wM : Memref sig .tc .vmem S4x512x1024 .bf16 := Memref.whole cc0_scratch0
abbrev inM : Memref sig .tc .vmem S4x512x1024 .bf16 := Memref.whole cc0_scratch1
abbrev gM : Memref sig .tc .vmem S2048x128 .f32 := Memref.whole cc0_scratch2
abbrev xbM : Memref sig .tc .vmem S2048x512 .bf16 := Memref.whole cc0_scratch3

/-! ## The rectangles -/

theorem row_inb {w : Nat} (i : Fin 8) : ∀ a, (![256 * i.val, 0] : Fin 2 → Nat) a + (![256, w] : Fin 2 → Nat) a ≤ (![2048, w] : Fin 2 → Nat) a := by
  intro a; have := i.isLt; fin_cases a
  · show 256 * i.val + 256 ≤ 2048; omega
  · show 0 + w ≤ w; omega

theorem col_inb (i : Fin 8) (k : Fin 2) : ∀ a, (![256 * i.val, k.val] : Fin 2 → Nat) a + S256x1.size a ≤ S2048x2.size a := by
  intro a; have := i.isLt; have := k.isLt; fin_cases a
  · show 256 * i.val + 256 ≤ 2048; omega
  · show k.val + 1 ≤ 2; omega

theorem exp_inb (e : Fin 4) : ∀ a, (![e.val, 0, 0] : Fin 3 → Nat) a + S1x512x1024.size a ≤ S4x512x1024.size a := by
  intro a; have := e.isLt; fin_cases a
  · show e.val + 1 ≤ 4; omega
  · show 0 + 512 ≤ 512; omega
  · show 0 + 1024 ≤ 1024; omega

/-- Rows `256 i … 256 i + 255` of the tokens, of the gate, of the output; one column of the two expert numbers. -/
abbrev rowX (i : Fin 8) : Rect S2048x512 := Rect.unit (s := S2048x512) ![256 * i.val, 0] S256x512.size (row_inb i)
abbrev rowG (i : Fin 8) : Rect S2048x128 := Rect.unit (s := S2048x128) ![256 * i.val, 0] S256x128.size (row_inb i)
abbrev rowO (i : Fin 8) : Rect S2048x1024 := Rect.unit (s := S2048x1024) ![256 * i.val, 0] S256x1024.size (row_inb i)
abbrev colI (i : Fin 8) (k : Fin 2) : Rect S2048x2 := Rect.unit (s := S2048x2) ![256 * i.val, k.val] S256x1.size (col_inb i k)
/-- One expert's weights among the four held. -/
abbrev expW (e : Fin 4) : Rect S4x512x1024 := Rect.unit (s := S4x512x1024) ![e.val, 0, 0] S1x512x1024.size (exp_inb e)
/-- The whole buffers. -/
abbrev allR : Rect S512x128 := Rect.unit (s := S512x128) ![0, 0] S512x128.size inb_S512x128_S512x128_0_0
abbrev allO : Rect S2048x1024 := Rect.unit (s := S2048x1024) ![0, 0] S2048x1024.size inb_S2048x1024_S2048x1024_0_0
abbrev allX : Rect S2048x512 := Rect.unit (s := S2048x512) ![0, 0] S2048x512.size inb_S2048x512_S2048x512_0_0
abbrev allW : Rect S4x512x1024 := Rect.unit (s := S4x512x1024) ![0, 0, 0] S4x512x1024.size inb_S4x512x1024_S4x512x1024_0_0_0

/-! ## The gate of one tile -/

/-- The router's scores of a tile's tokens. -/
def scores (xt : Vec F S256x512 .f32) (rw : Vec F S512x128 .f32) : FVec F S256x128 .f32 :=
  matmul dot_S256x512_S512x128_S256x128_1_0_0_1_n_n none (shapeCast S256x512 xt shapeCasts_S256x512_S256x512)
    (shapeCast S512x128 rw shapeCasts_S512x128_S512x128) (constant S256x128 .f32 0x00000000#32)

/-- Where the expert number along the row is the token's. -/
def hit (it : Vec F S256x1 .i32) : IVec S256x128 1 :=
  cmpi .eq (iota .tc S256x128 32 [1] iota_S256x128_d1_w32)
    (broadcastTo S256x128 (shapeCast S256x1 it shapeCasts_S256x1_S256x1) broadcasts_S256x1_S256x128)

/-- The token's score at its expert number: the row's scores elsewhere zeroed, summed. -/
def scoreAt (s : FVec F S256x128 .f32) (it : Vec F S256x1 .i32) : FVec F S256x1 .f32 :=
  shapeCast S256x1 (multiReduction .add [1] S256 (select (hit it) s (broadcast S256x128 (Scalar.ofBits .f32 0x00000000#32))) 0x00000000#32
    reduces_S256x128_S256 (.inl rfl) rfl) shapeCasts_S256_S256x1

/-- The first of the two experts' weight in the pair's softmax. -/
def wgt0 (s0 s1 : FVec F S256x1 .f32) : FVec F S256x1 .f32 :=
  divf (exp (subf s0 (maximumf s0 s1))) (addf (exp (subf s0 (maximumf s0 s1))) (exp (subf s1 (maximumf s0 s1))))

/-- A tile of the gate: the first expert's weight at its place, one less it at the second's. -/
def gateVal (xt : Vec F S256x512 .f32) (rw : Vec F S512x128 .f32) (i0 i1 : Vec F S256x1 .i32) : FVec F S256x128 .f32 :=
  shapeCast S256x128 (addf
    (mulf (broadcastTo S256x128 (wgt0 (scoreAt (scores xt rw) i0) (scoreAt (scores xt rw) i1)) broadcasts_S256x1_S256x128)
      (sitofp .f32 (extui 32 (hit i0) natLt_1_32)))
    (mulf (broadcastTo S256x128 (subf (broadcast S256x1 (Scalar.ofBits .f32 0x3F800000#32)) (wgt0 (scoreAt (scores xt rw) i0) (scoreAt (scores xt rw) i1)))
        broadcasts_S256x1_S256x128)
      (sitofp .f32 (extui 32 (hit i1) natLt_1_32)))) shapeCasts_S256x128_S256x128

def gateTile (i : Fin 8) : Prog (TpuEff nD τ sig (Elt F) Λ₀ .tc) PUnit := do
  let xt : Vec F S256x512 .f32 ← Prog.lift (.load xM (rowX i).toLoadRect (View.loadsAt_vmem h_S256x512))
  let rw : Vec F S512x128 .f32 ← Prog.lift (.load rwM allR.toLoadRect (View.loadsAt_vmem h_S512x128))
  let i0 : Vec F S256x1 .i32 ← Prog.lift (.load ixM (colI i 0).toLoadRect (View.loadsAt_vmem h_S256x1))
  let i1 : Vec F S256x1 .i32 ← Prog.lift (.load ixM (colI i 1).toLoadRect (View.loadsAt_vmem h_S256x1))
  let _ : Vec F S256x128 .f32 ← Prog.lift (.load gM (rowG i).toLoadRect (View.loadsAt_vmem h_S256x128))
  Prog.lift (.store gM (rowG i) (gateVal xt rw i0 i1) Finset.univ (View.stores_vmem_bits_univ h_S256x128 rfl) (.inl rfl))

/-! ## One row tile of a trip -/

/-- The gate column of the expert numbered `8 src + 4 rnd + e`, as a column vector. -/
def gateCol (gt : Vec F S256x128 .f32) (rnd src e : BitVec 32) : FVec F S256x1 .f32 :=
  shapeCast S256x1 (multiReduction .add [1] S256
    (select (cmpi .eq (iota .tc S256x128 32 [1] iota_S256x128_d1_w32)
      (broadcast S256x128 (Scalar.addi (Scalar.addi (Scalar.muli src 8#32) (Scalar.muli rnd 4#32)) e))) gt
      (broadcast S256x128 (Scalar.ofBits .f32 0x00000000#32))) 0x00000000#32
    reduces_S256x128_S256 (.inl rfl) rfl) shapeCasts_S256_S256x1

/-- One expert's contribution to a tile, added on. -/
def addExpert (rnd src e : BitVec 32) (xb : Vec F S256x512 .bf16) (gt : Vec F S256x128 .f32) (acc : FVec F S256x1024 .f32) (w : Vec F S1x512x1024 .bf16) :
    FVec F S256x1024 .f32 :=
  addf acc (mulf (broadcastTo S256x1024 (gateCol gt rnd src e) broadcasts_S256x1_S256x1024)
    (matmul dot_S256x512_S512x1024_S256x1024_1_0_0_1_n_n none xb (shapeCast S512x1024 w shapeCasts_S1x512x1024_S512x1024) (constant S256x1024 .f32 0x00000000#32)))

def tileVal (rnd src : BitVec 32) (xb : Vec F S256x512 .bf16) (gt : Vec F S256x128 .f32) (acc : Vec F S256x1024 .f32) (w0 w1 w2 w3 : Vec F S1x512x1024 .bf16) :
    FVec F S256x1024 .f32 :=
  addExpert rnd src 3#32 xb gt (addExpert rnd src 2#32 xb gt (addExpert rnd src 1#32 xb gt (addExpert rnd src 0#32 xb gt
    (shapeCast S256x1024 acc shapeCasts_S256x1024_S256x1024) w0) w1) w2) w3

def tile (rnd src : BitVec 32) (i : Fin 8) : Prog (TpuEff nD τ sig (Elt F) Λ₀ .tc) PUnit := do
  let xb : Vec F S256x512 .bf16 ← Prog.lift (.load xbM (rowX i).toLoadRect (View.loadsAt_vmem h_S256x512))
  let gt : Vec F S256x128 .f32 ← Prog.lift (.load gM (rowG i).toLoadRect (View.loadsAt_vmem h_S256x128))
  let acc : Vec F S256x1024 .f32 ← Prog.lift (.load oM (rowO i).toLoadRect (View.loadsAt_vmem h_S256x1024))
  let w0 : Vec F S1x512x1024 .bf16 ← Prog.lift (.load wM (expW 0).toLoadRect (View.loadsAt_vmem h_S1x512x1024))
  let w1 : Vec F S1x512x1024 .bf16 ← Prog.lift (.load wM (expW 1).toLoadRect (View.loadsAt_vmem h_S1x512x1024))
  let w2 : Vec F S1x512x1024 .bf16 ← Prog.lift (.load wM (expW 2).toLoadRect (View.loadsAt_vmem h_S1x512x1024))
  let w3 : Vec F S1x512x1024 .bf16 ← Prog.lift (.load wM (expW 3).toLoadRect (View.loadsAt_vmem h_S1x512x1024))
  let _ : Vec F S256x1024 .f32 ← Prog.lift (.load oM (rowO i).toLoadRect (View.loadsAt_vmem h_S256x1024))
  Prog.lift (.store oM (rowO i) (tileVal rnd src xb gt acc w0 w1 w2 w3) Finset.univ (View.stores_vmem_bits_univ h_S256x1024 rfl) (.inl rfl))

/-! ## The trip -/

/-- The trip's round and the device whose weights it works on, as words. -/
def rndW (t : Fin k0_t1_loop.trips) : BitVec 32 := Scalar.divsi (Scf.iv 0#32 1#32 t) 16#32
def srcW (v2 : BitVec 32) (t : Fin k0_t1_loop.trips) : BitVec 32 :=
  Scalar.remsi (Scalar.addi (Scalar.subi v2 (Scalar.remsi (Scf.iv 0#32 1#32 t) 16#32)) 16#32) 16#32
/-- Whether a trip that transfers is not the first one. -/
def cond3 (t : Fin k0_t1_loop.trips) : BitVec 1 :=
  Scalar.cmpi .ne (Scalar.extui (Scalar.cmpi .sge (Scf.iv 0#32 1#32 t) 1#32)) 0#32

/-- On the first step of a round the device's own weights are loaded in, rounded. -/
def headLoad (t : Fin k0_t1_loop.trips) : Prog (TpuEff nD τ sig (Elt F) Λ₀ .tc) PUnit :=
  if h : k0_cond1 t = 1#1 then do
    let w : Vec F S4x512x1024 .f32 ← Prog.lift (.load ewM (Rect.unit (s := S8x512x1024) (k0_off1 t) S4x512x1024.size (k0_off1_inb t h)).toLoadRect (View.loadsAt_vmem h_S4x512x1024))
    let _ : Vec F S4x512x1024 .bf16 ← Prog.lift (.load wM allW.toLoadRect (View.loadsAt_vmem h_S4x512x1024))
    Prog.lift (.store wM allW (k0_pay4 w) Finset.univ
      (View.stores_vmem h_S4x512x1024 ((Memref.isWhole_whole cc0_scratch0).storeExact_slice rfl _ packedbf16_S4x512x1024_S4x512x1024_0_0_0) (fun _ => rfl)) (.inl rfl))
    pure ⟨⟩
  else pure ⟨⟩

/-- On every step but the last of a round the weights go to the next device, after the credit for them (the first transfer
    needs none). -/
def headSend (d0 : Dev nD) (t : Fin k0_t1_loop.trips) : Prog (TpuEff nD τ sig (Elt F) Λ₀ .tc) PUnit :=
  if h : k0_cond2 t = 1#1 then do
    if h3 : cond3 t = 1#1 then do
      semWaitWord cc0_scratch6.sem 1#32
      pure ⟨⟩
    else pure ⟨⟩
    Prog.lift (.enqueueDma wM (.remote (Dev.tc (⟨k0_dev3 d0, k0_dev3_lt d0 t h⟩ : Dev nD)) inM (.dma cc0_scratch4.sem)) (.dma cc0_scratch5.sem)
      (Memref.isWhole_whole cc0_scratch0).wordExact (Memref.isWhole_whole cc0_scratch1).wordExact ⟨⟨rfl, Or.inl rfl⟩, trivial⟩)
    pure ⟨⟩
  else pure ⟨⟩

/-- On those steps, after the tiles: the transfer out and the one in awaited, the landed weights moved over, a credit given
    to the device before unless no further transfer comes. -/
def tail (d0 : Dev nD) (t : Fin k0_t1_loop.trips) : Prog (TpuEff nD τ sig (Elt F) Λ₀ .tc) PUnit :=
  if h : k0_cond4 t = 1#1 then do
    Prog.lift (.waitDma2 cc0_scratch4.sem inM wM (Memref.isWhole_whole cc0_scratch1).wordExact (Memref.isWhole_whole cc0_scratch0).wordExact)
    Prog.lift (.waitDma2 cc0_scratch5.sem wM inM (Memref.isWhole_whole cc0_scratch0).wordExact (Memref.isWhole_whole cc0_scratch1).wordExact)
    let v : Vec F S4x512x1024 .bf16 ← Prog.lift (.load inM allW.toLoadRect (View.loadsAt_vmem h_S4x512x1024))
    let _ : Vec F S4x512x1024 .bf16 ← Prog.lift (.load wM allW.toLoadRect (View.loadsAt_vmem h_S4x512x1024))
    Prog.lift (.store wM allW (k0_pay3 v) Finset.univ
      (View.stores_vmem h_S4x512x1024 ((Memref.isWhole_whole cc0_scratch0).storeExact_slice rfl _ packedbf16_S4x512x1024_S4x512x1024_0_0_0) (fun _ => rfl)) (.inl rfl))
    if h5 : k0_cond5 t = 1#1 then do
      semSignalWord (⟨k0_dev4 d0, k0_dev4_lt d0 t h h5⟩ : Dev nD) cc0_scratch6.sem 1#32
      pure ⟨⟩
    else pure ⟨⟩
    pure ⟨⟩
  else pure ⟨⟩

/-- One trip. -/
def trip (d0 : Dev nD) (v2 : BitVec 32) (t : Fin k0_t1_loop.trips) : Prog (TpuEff nD τ sig (Elt F) Λ₀ .tc) PUnit := do
  headLoad t
  headSend d0 t
  tile (rndW t) (srcW v2 t) 0
  tile (rndW t) (srcW v2 t) 1
  tile (rndW t) (srcW v2 t) 2
  tile (rndW t) (srcW v2 t) 3
  tile (rndW t) (srcW v2 t) 4
  tile (rndW t) (srcW v2 t) 5
  tile (rndW t) (srcW v2 t) 6
  tile (rndW t) (srcW v2 t) 7
  tail d0 t

/-- The barrier with both neighbours. -/
def barrier (d0 : Dev nD) : Prog (TpuEff nD τ sig (Elt F) Λ₀ .tc) PUnit := do
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semWaitWord (SemArray.scalar (sig.barrier 0 rfl) : Sems sig S_).sem 2#32

/-- The device's place in the ring, as the kernel computes it. -/
def meW (d0 : Dev nD) : BitVec 32 := Scalar.remsi (Scalar.divsi (Dev.word d0) 1#32) 16#32

/-- What comes before the loop, after the barrier: the gate, the output zeroed, the tokens rounded. -/
def prologue : Prog (TpuEff nD τ sig (Elt F) Λ₀ .tc) PUnit := do
  gateTile 0
  gateTile 1
  gateTile 2
  gateTile 3
  gateTile 4
  gateTile 5
  gateTile 6
  gateTile 7
  let _ : Vec F S2048x1024 .f32 ← Prog.lift (.load oM allO.toLoadRect (View.loadsAt_vmem h_S2048x1024))
  Prog.lift (.store oM allO k0_pay65 Finset.univ (View.stores_vmem_bits_univ h_S2048x1024 rfl) (.inl rfl))
  let v : Vec F S2048x512 .f32 ← Prog.lift (.load xM allX.toLoadRect (View.loadsAt_vmem h_S2048x512))
  let _ : Vec F S2048x512 .bf16 ← Prog.lift (.load xbM allX.toLoadRect (View.loadsAt_vmem h_S2048x512))
  Prog.lift (.store xbM allX (k0_pay1 v) Finset.univ
    (View.stores_vmem h_S2048x512 ((Memref.isWhole_whole cc0_scratch3).storeExact_slice rfl _ packedbf16_S2048x512_S2048x512_0_0) (fun _ => rfl)) (.inl rfl))

def body : Prog (TpuEff nD τ sig (Elt F) Λ₀ .tc) PUnit := do
  let d0 : Dev nD ← Prog.lift .deviceId
  barrier d0
  prologue
  Scf.Loop.for k0_t1_loop k0_t1_ok ⟨⟩ (fun t _ => trip d0 (meW d0) t)
  pure ⟨⟩

set_option maxRecDepth 65536 in
set_option maxHeartbeats 4000000 in
/-- The printed trip is the trip above. -/
theorem trip_eq (d0 : Dev nD) (v7 : BitVec 32) (v2 : BitVec 32) :
    k0_t1_body (F := F) xM (Memref.isWhole_whole _) rwM (Memref.isWhole_whole _) ixM (Memref.isWhole_whole _) ewM (Memref.isWhole_whole _) oM (Memref.isWhole_whole _)
      wM (Memref.isWhole_whole _) inM (Memref.isWhole_whole _) gM (Memref.isWhole_whole _) xbM (Memref.isWhole_whole _) cc0_scratch4 cc0_scratch5 cc0_scratch6
      d0 v2 v7 (iota .tc S256x128 32 [1] iota_S256x128_d1_w32) = fun t _ => trip d0 v2 t := by
  funext t u
  unfold k0_t1_body trip
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel
    k0_part12_skel k0_part13_skel k0_part14_skel k0_part15_skel headLoad headSend tail tile
  by_cases h1 : k0_cond1 t = 1#1 <;> by_cases h2 : k0_cond2 t = 1#1 <;> by_cases h3 : cond3 t = 1#1 <;> by_cases h4 : k0_cond4 t = 1#1 <;>
    by_cases h5 : k0_cond5 t = 1#1
  all_goals
    have h3' := h3
    unfold cond3 at h3'
    simp only [h1, h2, h3, h3', h4, h5, dite_true, dite_false]
    rfl

end Cert.Moe

end
-- ==== Proof.Protocol.lean ====
/-
# The protocol of the ring

Sixteen devices in a ring. Each keeps its 2048 tokens and works on four experts' weights at a time; the weights go round.
In each of two rounds a device loads four of its own experts' weights, then 15 times sends what it holds on to the next
device and takes what the device before it sent: 30 transfers in all, numbered by `k`. Transfer `k` happens in trip
`k + k / 15` of the 32.

The landing buffer of a device is written by the device before it, so that device must know that it is free:

* at the start a device signals both neighbours' barrier cell, and its signal to the device before hands over its landing
  buffer and that its receive cell is at round 0;
* transfer `k` pays round `k` of the next device's receive cell: the landing buffer written, and that the sender's credit
  cell has reached round `k`;
* after taking the landed weights out, a device signals the credit cell of the device before, round `k`: the landing buffer
  again, and that its receive cell is at round `k + 1`. The last transfer is not credited;
* the source of transfer `k` is lent at half its share, so the trip reads it during the flight, and comes back with round `k`
  of the device's send cell.

A device owes rounds `k …` of the next device's receive cell and rounds `k …` of the previous device's credit cell. A wait on
round `k` of the receive cell is at level `2 k + 2`, one on round `k` of the credit cell at `2 k + 3`, the barrier at 1 and a
send cell or a staging cell at 0: everything owed at a wait is above it.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the ring's, indices and names natural numbers -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The state the run starts from. -/
def s₀ : MemSt nD τ sig (Elt F) := ⟨m, fun _ => 0, ρ⟩

/-! ## The ring -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def around : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) (t) (h) : (⟨k0_dev3 c, k0_dev3_lt c t h⟩ : Dev nD) = nxt c := Fin.ext (k0_dev3_eq c)
theorem dev4_eq (c : Dev nD) (t) (h) (h') : (⟨k0_dev4 c, k0_dev4_lt c t h h'⟩ : Dev nD) = prv c := Fin.ext (k0_dev4_eq c)

set_option backward.proofsInPublic true in
/-- The device whose weights device `c` works on in trip `g`. -/
def src (c : Dev nD) (g : ℕ) : Dev nD := ⟨(c.val + (16 - g % 16)) % 16, Nat.mod_lt _ (by decide)⟩

theorem src_zero (c : Dev nD) (g : ℕ) (h : g % 16 = 0) : src c g = c := by
  have : c.val < 16 := c.isLt; apply Fin.ext; show (c.val + (16 - g % 16)) % 16 = c.val
  rw [h]; omega

theorem src_nxt (c : Dev nD) (g : ℕ) (h : g % 16 ≤ 14) : src (nxt c) (g + 1) = src c g := by
  have : c.val < 16 := c.isLt; apply Fin.ext
  show ((c.val + 1) % 16 + (16 - (g + 1) % 16)) % 16 = (c.val + (16 - g % 16)) % 16
  omega

/-! ## The trips and the transfers -/

/-- How many transfers come before trip `g`, and the trip of transfer `k`. -/
def sends (g : ℕ) : ℕ := 15 * (g / 16) + min (g % 16) 15

theorem sends_succ (g : ℕ) (h : g % 16 ≤ 14) : sends (g + 1) = sends g + 1 := by unfold sends; omega
theorem sends_last (g : ℕ) (h : g % 16 = 15) : sends (g + 1) = sends g := by unfold sends; omega
theorem sends_lt (g : ℕ) (hg : g < 32) (h : g % 16 ≤ 14) : sends g < 30 := by unfold sends; omega
theorem sends_trip (g : ℕ) (h : g % 16 ≤ 14) : sends g + sends g / 15 = g := by unfold sends; omega

theorem cond1_iff : ∀ t : Fin k0_t1_loop.trips, k0_cond1 t = 1#1 ↔ t.val % 16 = 0 := by decide +kernel
theorem cond2_iff : ∀ t : Fin k0_t1_loop.trips, k0_cond2 t = 1#1 ↔ t.val % 16 ≤ 14 := by decide +kernel
theorem cond3_iff : ∀ t : Fin k0_t1_loop.trips, cond3 t = 1#1 ↔ 1 ≤ t.val := by decide +kernel
theorem cond4_iff : ∀ t : Fin k0_t1_loop.trips, k0_cond4 t = 1#1 ↔ t.val % 16 ≤ 14 := by decide +kernel
theorem cond5_iff : ∀ t : Fin k0_t1_loop.trips, k0_cond5 t = 1#1 ↔ t.val ≤ 29 := by decide +kernel
theorem trips_eq : k0_t1_loop.trips = 32 := by decide +kernel

/-! ## The cells -/

/-- The barrier semaphore (not scoped to the launch), the send and receive semaphores of the transfers, the credit semaphore. -/
abbrev barS : Sem sig := (SemArray.scalar (sig.barrier 0 rfl) : Sems sig S_).sem
abbrev sendS : DmaSem sig := cc0_scratch4.sem
abbrev recvS : DmaSem sig := cc0_scratch5.sem
abbrev credS : Sem sig := cc0_scratch6.sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)
abbrev credCell (c : Dev nD) : GSem nD τ sig := ((c : Thread nD τ), .reg credS)

/-- The kernel's own scoped semaphores, and all four of the protocol's. -/
abbrev osem : Fin 3 → SemLoc sig := fun | 0 => .dma sendS | 1 => .dma recvS | 2 => .reg credS
abbrev csem : Fin 4 → SemLoc sig := fun | 0 => .reg barS | 1 => .dma sendS | 2 => .dma recvS | 3 => .reg credS
abbrev kcell (ck : Dev nD × Fin 4) : GSem nD τ sig := ((ck.1 : Thread nD τ), csem ck.2)

/-- What a transfer credits. -/
abbrev N : ℕ := (inM : Memref sig .tc .vmem S4x512x1024 .bf16).view.dmaCredit
theorem N_pos : 0 < N := View.dmaCredit_pos _ (by decide)

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def rwstg (c : Dev nD) : (cc0_stg1_0 : Ref sig .tc).ty.Contents (Elt F) :=
  (win0_1.blk (0 : Fin 1)).view.read (Elt F) ((s₀ m ρ).mem ((c : Thread nD τ).loc main_arg1))
def ixstg (c : Dev nD) : (cc0_stg2_0 : Ref sig .tc).ty.Contents (Elt F) :=
  (win0_2.blk (0 : Fin 1)).view.read (Elt F) ((s₀ m ρ).mem ((c : Thread nD τ).loc main_arg2))
def ewstg (c : Dev nD) : (cc0_stg3_0 : Ref sig .tc).ty.Contents (Elt F) :=
  (win0_3.blk (0 : Fin 1)).view.read (Elt F) ((s₀ m ρ).mem ((c : Thread nD τ).loc main_arg3))

theorem chunk_inb (r : ℕ) : ∀ a, (![4 * (r % 2), 0, 0] : Fin 3 → Nat) a + S4x512x1024.size a ≤ S8x512x1024.size a := by
  intro a; have : r % 2 < 2 := Nat.mod_lt _ (by decide); fin_cases a
  · show 4 * (r % 2) + 4 ≤ 8; omega
  · show 0 + 512 ≤ 512; omega
  · show 0 + 1024 ≤ 1024; omega

/-- Four of device `s`'s experts' weights, rounded: what round `r` sends round. -/
def chunk (s : Dev nD) (r : ℕ) : (cc0_scratch0 : Ref sig .tc).ty.Contents (Elt F) :=
  k0_pay4 ((ewM : Memref sig .tc .vmem S8x512x1024 .f32).view.readAt (Elt F)
    (Rect.unit (s := S8x512x1024) ![4 * (r % 2), 0, 0] S4x512x1024.size (chunk_inb r)).toLoadRect (ewstg m ρ s))

/-- What device `c` works on in trip `g`. -/
def wAt (c : Dev nD) (g : ℕ) : (cc0_scratch0 : Ref sig .tc).ty.Contents (Elt F) := chunk m ρ (src c g) (g / 16)

theorem wAt_prv (c : Dev nD) (g : ℕ) (h : g % 16 ≤ 14) : wAt m ρ (prv c) g = wAt m ρ c (g + 1) := by
  unfold wAt
  have e := src_nxt (prv c) g h
  rw [nxt_prv] at e
  rw [e, show (g + 1) / 16 = g / 16 by omega]

/-- The weights held, and the landing buffer. -/
def wPts (c : Dev nD) (q : PosShare TreeShare) (f : Buf (Elt F) ((c : Thread nD τ).loc cc0_scratch0)) : sProp 𝕄 :=
  ((c : Thread nD τ).loc cc0_scratch0) ↦{q} f
def inPts (c : Dev nD) (f : Buf (Elt F) ((c : Thread nD τ).loc cc0_scratch1)) : sProp 𝕄 :=
  ((c : Thread nD τ).loc cc0_scratch1) ↦{fullShare} f

instance wPts_storable (c : Dev nD) (q) (f) : BI.Storable (upEmb : UEmb _ 𝕄) (wPts (F := F) c q f) := by unfold wPts; infer_instance
instance inPts_storable (c : Dev nD) (f) : BI.Storable (upEmb : UEmb _ 𝕄) (inPts (F := F) c f) := by unfold inPts; infer_instance

theorem wPts_view (c : Dev nD) (q) (f : Buf (Elt F) ((c : Thread nD τ).loc cc0_scratch0)) :
    wPts c q f = ((wM : Memref sig .tc .vmem S4x512x1024 .bf16).view.loc (c : Thread nD τ) ↦[(wM : Memref sig .tc .vmem S4x512x1024 .bf16).view.set]{q} f : sProp 𝕄) := by
  unfold wPts; rw [View.set_whole]
theorem inPts_view (c : Dev nD) (f : Buf (Elt F) ((c : Thread nD τ).loc cc0_scratch1)) :
    inPts c f = ((inM : Memref sig .tc .vmem S4x512x1024 .bf16).view.loc (c : Thread nD τ) ↦[(inM : Memref sig .tc .vmem S4x512x1024 .bf16).view.set]{fullShare} f : sProp 𝕄) := by
  unfold inPts; rw [View.set_whole]

/-- What a transfer leaves in the landing buffer: its source. -/
theorem landed_eq (c : Dev nD) (fd : Buf (Elt F) ((inM : Memref sig .tc .vmem S4x512x1024 .bf16).view.loc (c : Thread nD τ))) (fs : (cc0_scratch0 : Ref sig .tc).ty.Contents (Elt F)) :
    (inM : Memref sig .tc .vmem S4x512x1024 .bf16).view.write (Elt F) fd ((wM : Memref sig .tc .vmem S4x512x1024 .bf16).view.read (Elt F) fs) Finset.univ = fs := by
  show (View.whole cc0_scratch1).write (Elt F) fd ((View.whole cc0_scratch0).read (Elt F) fs) Finset.univ = fs
  rw [View.read_whole]
  exact View.write_whole_univ _ _ _

/-! ## The schedule -/

/-- What the next device's barrier signal hands over. -/
def barPay (c : Dev nD) : sProp 𝕄 := iprop((∃ f, inPts (nxt c) f) ∗ reached ER (recvCell (nxt c)) 0)
/-- What transfer `k` into device `c` leaves it. -/
def recvPay (c : Dev nD) (k : ℕ) : sProp 𝕄 := iprop(inPts c (wAt m ρ c (k + k / 15 + 1)) ∗ reached ER (credCell (prv c)) k)
/-- What comes back with the departure of transfer `k`. -/
def sendPay (c : Dev nD) (k : ℕ) : sProp 𝕄 := wPts c fullShare.right (wAt m ρ c (k + k / 15))
/-- What the next device's credit of round `k` hands over. -/
def credPay (c : Dev nD) (k : ℕ) : sProp 𝕄 := iprop((∃ f, inPts (nxt c) f) ∗ reached ER (recvCell (nxt c)) (k + 1))

/-- Round 0 of a barrier cell has the two duties `false` (paid by the device before) and `true` (by the next) of one unit;
    rounds 0 to 29 of a send or a receive cell, and rounds 0 to 28 of a credit cell, have the duty `false`. -/
def ringRd : Rounds.Schedule (GSem nD τ sig) Bool 𝕄 where
  duties g r :=
    if g.1.2 = .tc then
      if g.2 = .reg barS then (if r = 0 then Finset.univ else ∅)
      else if g.2 = .dma sendS ∨ g.2 = .dma recvS then (if r < 30 then {false} else ∅)
      else if g.2 = .reg credS then (if r < 29 then {false} else ∅)
      else ∅
    else ∅
  unitless _ := False
  amount g _ _ := if g.2 = .dma sendS ∨ g.2 = .dma recvS then N else 1
  payload g r d :=
    if g.2 = .reg barS then (if d then barPay g.1.1 else iprop(emp))
    else if g.2 = .dma recvS then recvPay m ρ g.1.1 r
    else if g.2 = .dma sendS then sendPay m ρ g.1.1 r
    else if g.2 = .reg credS then credPay g.1.1 r
    else iprop(emp)
  amount_pos g _ _ _ := by
    split
    · exact N_pos
    · exact Nat.one_pos

instance ringRd_payload_storable (g : GSem nD τ sig) (r : ℕ) (d : Bool) :
    BI.Storable (upEmb : UEmb _ 𝕄) ((ringRd (F := F) m ρ).payload g r d) := by
  show BI.Storable upEmb (if g.2 = .reg barS then (if d then barPay g.1.1 else iprop(emp)) else if g.2 = .dma recvS then recvPay m ρ g.1.1 r
    else if g.2 = .dma sendS then sendPay m ρ g.1.1 r else if g.2 = .reg credS then credPay g.1.1 r else iprop(emp))
  unfold barPay recvPay sendPay credPay
  (repeat' split) <;> infer_instance

section Sched
variable (c : Dev nD)

theorem send_ne_bar : (SemLoc.dma sendS : SemLoc sig) ≠ .reg barS := fun h => by cases h
theorem recv_ne_bar : (SemLoc.dma recvS : SemLoc sig) ≠ .reg barS := fun h => by cases h
theorem cred_ne_bar : (SemLoc.reg credS : SemLoc sig) ≠ .reg barS := by decide
theorem send_ne_recv : (SemLoc.dma sendS : SemLoc sig) ≠ .dma recvS := by decide
theorem cred_ne_dma (q : DmaSem sig) : (SemLoc.reg credS : SemLoc sig) ≠ .dma q := fun h => by cases h
theorem bar_ne_dma (q : DmaSem sig) : (SemLoc.reg barS : SemLoc sig) ≠ .dma q := fun h => by cases h

theorem duties_bar : (ringRd (F := F) m ρ).duties (barCell c) 0 = Finset.univ := by
  dsimp only [ringRd]; rw [if_pos rfl, if_pos rfl, if_pos rfl]
theorem duties_bar_later (r : ℕ) (hr : 1 ≤ r) : (ringRd (F := F) m ρ).duties (barCell c) r = ∅ := by
  dsimp only [ringRd]; rw [if_pos rfl, if_pos rfl, if_neg (by omega)]
theorem duties_send' (r : ℕ) : (ringRd (F := F) m ρ).duties (sendCell c) r = if r < 30 then {false} else ∅ := by
  dsimp only [ringRd]; rw [if_pos rfl, if_neg send_ne_bar, if_pos (.inl rfl)]
theorem duties_recv' (r : ℕ) : (ringRd (F := F) m ρ).duties (recvCell c) r = if r < 30 then {false} else ∅ := by
  dsimp only [ringRd]; rw [if_pos rfl, if_neg recv_ne_bar, if_pos (.inr rfl)]
theorem duties_cred' (r : ℕ) : (ringRd (F := F) m ρ).duties (credCell c) r = if r < 29 then {false} else ∅ := by
  dsimp only [ringRd]
  rw [if_pos rfl, if_neg cred_ne_bar, if_neg (fun h => Or.elim h (cred_ne_dma _) (cred_ne_dma _)), if_pos rfl]
theorem duties_send {r : ℕ} (hr : r < 30) : (ringRd (F := F) m ρ).duties (sendCell c) r = {false} := (duties_send' m ρ c r).trans (if_pos hr)
theorem duties_recv {r : ℕ} (hr : r < 30) : (ringRd (F := F) m ρ).duties (recvCell c) r = {false} := (duties_recv' m ρ c r).trans (if_pos hr)
theorem duties_cred {r : ℕ} (hr : r < 29) : (ringRd (F := F) m ρ).duties (credCell c) r = {false} := (duties_cred' m ρ c r).trans (if_pos hr)

theorem amount_bar (r : ℕ) (d : Bool) : (ringRd (F := F) m ρ).amount (barCell c) r d = 1 := by
  dsimp only [ringRd]; exact if_neg (fun h => Or.elim h (bar_ne_dma _) (bar_ne_dma _))
theorem amount_cred (r : ℕ) (d : Bool) : (ringRd (F := F) m ρ).amount (credCell c) r d = 1 := by
  dsimp only [ringRd]; exact if_neg (fun h => Or.elim h (cred_ne_dma _) (cred_ne_dma _))
theorem amount_send (r : ℕ) (d : Bool) : (ringRd (F := F) m ρ).amount (sendCell c) r d = N := by
  dsimp only [ringRd]; exact if_pos (.inl rfl)
theorem amount_recv (r : ℕ) (d : Bool) : (ringRd (F := F) m ρ).amount (recvCell c) r d = N := by
  dsimp only [ringRd]; exact if_pos (.inr rfl)

theorem expect_bar : (ringRd (F := F) m ρ).expect (barCell c) 0 = 2 := by
  unfold Schedule.expect Schedule.amountOf
  rw [duties_bar, Finset.sum_congr rfl fun d _ => amount_bar m ρ c 0 d, Finset.sum_const, Finset.card_univ, Fintype.card_bool, smul_eq_mul]
theorem expect_send {r : ℕ} (hr : r < 30) : (ringRd (F := F) m ρ).expect (sendCell c) r = N := by
  unfold Schedule.expect Schedule.amountOf; rw [duties_send m ρ c hr, Finset.sum_singleton, amount_send]
theorem expect_recv {r : ℕ} (hr : r < 30) : (ringRd (F := F) m ρ).expect (recvCell c) r = N := by
  unfold Schedule.expect Schedule.amountOf; rw [duties_recv m ρ c hr, Finset.sum_singleton, amount_recv]
theorem expect_cred {r : ℕ} (hr : r < 29) : (ringRd (F := F) m ρ).expect (credCell c) r = 1 := by
  unfold Schedule.expect Schedule.amountOf; rw [duties_cred m ρ c hr, Finset.sum_singleton, amount_cred]

theorem payload_bar_true (r : ℕ) : (ringRd (F := F) m ρ).payload (barCell c) r true = barPay c := by dsimp only [ringRd]; rw [if_pos rfl, if_pos rfl]
theorem payload_bar_false (r : ℕ) : (ringRd (F := F) m ρ).payload (barCell c) r false = iprop(emp) := by
  dsimp only [ringRd]; rw [if_pos rfl]; exact if_neg Bool.false_ne_true
theorem payload_send (r : ℕ) (d : Bool) : (ringRd (F := F) m ρ).payload (sendCell c) r d = sendPay m ρ c r := by
  dsimp only [ringRd]; rw [if_neg send_ne_bar, if_neg send_ne_recv, if_pos rfl]
theorem payload_recv (r : ℕ) (d : Bool) : (ringRd (F := F) m ρ).payload (recvCell c) r d = recvPay m ρ c r := by
  dsimp only [ringRd]; rw [if_neg recv_ne_bar, if_pos rfl]
theorem payload_cred (r : ℕ) (d : Bool) : (ringRd (F := F) m ρ).payload (credCell c) r d = credPay c r := by
  dsimp only [ringRd]; rw [if_neg cred_ne_bar, if_neg (cred_ne_dma _), if_neg (cred_ne_dma _), if_pos rfl]

theorem rest_bar : bigSep ((ringRd (F := F) m ρ).duties (barCell c) 0 \ ∅) (fun d => (ringRd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send {r : ℕ} (hr : r < 30) :
    bigSep ((ringRd (F := F) m ρ).duties (sendCell c) r \ ∅) (fun d => (ringRd (F := F) m ρ).payload (sendCell c) r d) = sendPay m ρ c r := by
  rw [Finset.sdiff_empty, duties_send m ρ c hr, bigSep_singleton, payload_send]
theorem rest_recv {r : ℕ} (hr : r < 30) :
    bigSep ((ringRd (F := F) m ρ).duties (recvCell c) r \ ∅) (fun d => (ringRd (F := F) m ρ).payload (recvCell c) r d) = recvPay m ρ c r := by
  rw [Finset.sdiff_empty, duties_recv m ρ c hr, bigSep_singleton, payload_recv]
theorem rest_cred {r : ℕ} (hr : r < 29) :
    bigSep ((ringRd (F := F) m ρ).duties (credCell c) r \ ∅) (fun d => (ringRd (F := F) m ρ).payload (credCell c) r d) = credPay c r := by
  rw [Finset.sdiff_empty, duties_cred m ρ c hr, bigSep_singleton, payload_cred]

end Sched

/-! ## What is owed; the levels -/

/-- What device `c` owes the next device's receive cell from transfer `k` on, and the previous one's credit cell from round
    `j` on. -/
def owedRecv (c : Dev nD) (k : ℕ) : CellTallies nD τ sig ℕ := ∑ i ∈ Finset.Ico k 30, tallyAt (recvCell (nxt c)) i N
def owedCred (c : Dev nD) (j : ℕ) : CellTallies nD τ sig ℕ := ∑ i ∈ Finset.Ico j 29, tallyAt (credCell (prv c)) i 1
def owed (c : Dev nD) (k j : ℕ) : CellTallies nD τ sig ℕ := owedRecv c k + owedCred c j

def O₁ (c : Dev nD) : CellTallies nD τ sig ℕ := owed c 0 0 + tallyAt (barCell (nxt c)) 0 1
def O₀ (c : Dev nD) : CellTallies nD τ sig ℕ := O₁ c + tallyAt (barCell (prv c)) 0 1

theorem Ico_peel {k n : ℕ} (h : k < n) : Finset.Ico k n = insert k (Finset.Ico (k + 1) n) := by
  ext i; simp only [Finset.mem_insert, Finset.mem_Ico]; omega

theorem owedRecv_step (c : Dev nD) {k : ℕ} (h : k < 30) : owedRecv c k = owedRecv c (k + 1) + tallyAt (recvCell (nxt c)) k N := by
  unfold owedRecv; rw [Ico_peel h, Finset.sum_insert (by simp), add_comm]
theorem owedCred_step (c : Dev nD) {j : ℕ} (h : j < 29) : owedCred c j = owedCred c (j + 1) + tallyAt (credCell (prv c)) j 1 := by
  unfold owedCred; rw [Ico_peel h, Finset.sum_insert (by simp), add_comm]
theorem owed_recv (c : Dev nD) {k : ℕ} (j : ℕ) (h : k < 30) : owed c k j = owed c (k + 1) j + tallyAt (recvCell (nxt c)) k N := by
  unfold owed; rw [owedRecv_step c h, add_right_comm]
theorem owed_cred (c : Dev nD) (k : ℕ) {j : ℕ} (h : j < 29) : owed c k j = owed c k (j + 1) + tallyAt (credCell (prv c)) j 1 := by
  unfold owed; rw [owedCred_step c h, add_assoc]
theorem owed_cred_none (c : Dev nD) (k : ℕ) {j : ℕ} (h : 29 ≤ j) : owed c k j = owed c k (j + 1) := by
  unfold owed owedCred; rw [Finset.Ico_eq_empty (by omega), Finset.Ico_eq_empty (by omega)]
theorem owed_done (c : Dev nD) : owed c 30 30 = 0 := by
  unfold owed owedRecv owedCred; rw [Finset.Ico_eq_empty (by omega), Finset.Ico_eq_empty (by omega), Finset.sum_empty, Finset.sum_empty, add_zero]

theorem sum_tally_pos {s : Finset ℕ} {G : GSem nD τ sig} {n : ℕ} {g : GSem nD τ sig} {u : ℕ}
    (h : 0 < (∑ i ∈ s, tallyAt G i n : CellTallies nD τ sig ℕ) g u) : g = G ∧ u ∈ s := by
  rw [Finset.sum_apply, Finsupp.finsetSum_apply] at h
  obtain ⟨i, hi, hp⟩ := Finset.exists_ne_zero_of_sum_ne_zero (Nat.pos_iff_ne_zero.mp h)
  rw [tallyAt_apply] at hp
  by_cases hh : g = G ∧ u = i
  · exact ⟨hh.1, hh.2 ▸ hi⟩
  · rw [if_neg hh] at hp; exact absurd rfl hp

theorem owed_pos {c : Dev nD} {k j : ℕ} {g : GSem nD τ sig} {u : ℕ} (h : 0 < owed c k j g u) :
    (g = recvCell (nxt c) ∧ k ≤ u ∧ u < 30) ∨ (g = credCell (prv c) ∧ j ≤ u ∧ u < 29) := by
  unfold owed at h
  rw [Pi.add_apply, Finsupp.add_apply] at h
  rcases Nat.eq_zero_or_pos (owedRecv c k g u) with h0 | h0
  · rw [h0, zero_add] at h
    have := sum_tally_pos h
    rw [Finset.mem_Ico] at this; exact .inr this
  · have := sum_tally_pos h0
    rw [Finset.mem_Ico] at this; exact .inl this

def L (g : GSem nD τ sig) : Finset ℕ := if g.1.2 = .tc then Finset.range 64 else ∅
/-- Barrier cells at 1, round `i` of a receive cell at `2 i + 2`, of a credit cell at `2 i + 3`, everything else at 0. -/
def lv (g : GSem nD τ sig) (i : ℕ) : ℕ :=
  if g.2 = .reg barS then 1 else if g.2 = .dma recvS then 2 * i + 2 else if g.2 = .reg credS then 2 * i + 3 else 0

theorem L_of_ne (g : GSem nD τ sig) (h : g.1.2 ≠ .tc) : L g = ∅ := if_neg h
theorem L_tc (c : Dev nD) (sm : SemLoc sig) : L ((c : Thread nD τ), sm) = Finset.range 64 := if_pos rfl
theorem mem_L (c : Dev nD) (sm : SemLoc sig) {i : ℕ} (h : i < 64) : i ∈ L ((c : Thread nD τ), sm) := by rw [L_tc]; exact Finset.mem_range.mpr h

theorem lv_bar (c : Dev nD) (i : ℕ) : lv (barCell c) i = 1 := if_pos rfl
theorem lv_recv (c : Dev nD) (i : ℕ) : lv (recvCell c) i = 2 * i + 2 := by unfold lv; rw [if_neg recv_ne_bar, if_pos rfl]
theorem lv_cred (c : Dev nD) (i : ℕ) : lv (credCell c) i = 2 * i + 3 := by unfold lv; rw [if_neg cred_ne_bar, if_neg (cred_ne_dma _), if_pos rfl]
theorem lv_other (c : Dev nD) (q : DmaSem sig) (hq : SemLoc.dma q ≠ .dma recvS) (i : ℕ) : lv ((c : Thread nD τ), .dma q) i = 0 := by
  unfold lv; rw [if_neg (fun h => by cases h), if_neg hq, if_neg (fun h => by cases h)]

/-- A wait at level at most `n` may be made while only rounds above it are owed. -/
theorem mayWait_of (c : Dev nD) (sm : SemLoc sig) (i k j n : ℕ) (hi : i < 64) (hn : lv ((c : Thread nD τ), sm) i ≤ n)
    (hk : n < 2 * k + 2) (hj : n < 2 * j + 3) : (levAts L lv : sProp 𝕄) ⊢ MayWait (c : Thread nD τ) sm i (owed c k j) :=
  MayOwe.of_cut (L := L) (lev := lv) n (fun p hp => by rw [Finset.mem_singleton.mp hp]; exact mem_L c sm hi)
    (fun g u hg => by
      rcases owed_pos hg with ⟨rfl, h1, h2⟩ | ⟨rfl, h1, h2⟩ <;> exact mem_L _ _ (by omega))
    (fun p hp => by rw [Finset.mem_singleton.mp hp]; exact hn)
    (fun g u hg => by
      rcases owed_pos hg with ⟨rfl, h1, h2⟩ | ⟨rfl, h1, h2⟩
      · rw [lv_recv]; omega
      · rw [lv_cred]; omega)

theorem O₀_pos {c : Dev nD} {g : GSem nD τ sig} {u : ℕ} (h : 0 < O₀ c g u) :
    (g = recvCell (nxt c) ∧ u < 30) ∨ (g = credCell (prv c) ∧ u < 29) ∨ (g = barCell (nxt c) ∧ u = 0) ∨ (g = barCell (prv c) ∧ u = 0) := by
  unfold O₀ O₁ at h
  rw [Pi.add_apply, Finsupp.add_apply, Pi.add_apply, Finsupp.add_apply, tallyAt_apply, tallyAt_apply] at h
  by_contra hn
  rw [not_or, not_or, not_or] at hn
  rw [if_neg hn.2.2.1, if_neg hn.2.2.2] at h
  rcases owed_pos (c := c) (k := 0) (j := 0) (g := g) (u := u) (by omega) with h' | h'
  · exact hn.1 ⟨h'.1, h'.2.2⟩
  · exact hn.2.1 ⟨h'.1, h'.2.2⟩

/-- The staging cells may be waited on from the start. -/
theorem mayWait_stage (c : Dev nD) (q : DmaSem sig) (hq : SemLoc.dma q ≠ .dma recvS) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp]; exact mem_L c _ (by omega))
      (fun g u hg => by rcases O₀_pos hg with ⟨rfl, h⟩ | ⟨rfl, h⟩ | ⟨rfl, h⟩ | ⟨rfl, h⟩ <;> exact mem_L _ _ (by omega))
      (fun p hp => by rw [Finset.mem_singleton.mp hp]; exact (lv_other c q hq 0).le)
      (fun g u hg => by
        rcases O₀_pos hg with ⟨rfl, h⟩ | ⟨rfl, h⟩ | ⟨rfl, h⟩ | ⟨rfl, h⟩
        · rw [lv_recv]; omega
        · rw [lv_cred]; omega
        · rw [lv_bar]; decide
        · rw [lv_bar]; decide)
  · rw [MayWait_zero]; iintro -; iempintro

end Cert.Moe

end
-- ==== Proof.Compute.lean ====
/-
# The pure parts of the body, run

The gate tiles and the row tiles: loads and one store each, proved once for a tile `i`. What the store leaves is stated as
a function of what the loads read.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

abbrev 𝒱₀ : Variants := Variants.none

/-- A program of device `c`, run to a postcondition. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole buffer of device `c`, held in full or at a share. -/
abbrev holds (c : Dev nD) (b : Ref sig .tc) (q : PosShare TreeShare) (f : Buf (Elt F) ((c : Thread nD τ).loc b)) : sProp 𝕄 :=
  ((c : Thread nD τ).loc b) ↦{q} f

/-! ## What a tile leaves -/

/-- The output after row tile `i`. -/
def tileStep (rnd src : BitVec 32) (fx : (cc0_scratch3 : Ref sig .tc).ty.Contents (Elt F)) (fg : (cc0_scratch2 : Ref sig .tc).ty.Contents (Elt F))
    (fw : (cc0_scratch0 : Ref sig .tc).ty.Contents (Elt F)) (fo : (cc0_stg4_0 : Ref sig .tc).ty.Contents (Elt F)) (i : Fin 8) :
    (cc0_stg4_0 : Ref sig .tc).ty.Contents (Elt F) :=
  ((oM : Memref sig .tc .vmem S2048x1024 .f32).access (rowO i) : View sig .tc _ _ _).write (Elt F) fo
    (tileVal rnd src ((xbM : Memref sig .tc .vmem S2048x512 .bf16).view.readAt (Elt F) (rowX i).toLoadRect fx)
      ((gM : Memref sig .tc .vmem S2048x128 .f32).view.readAt (Elt F) (rowG i).toLoadRect fg)
      ((oM : Memref sig .tc .vmem S2048x1024 .f32).view.readAt (Elt F) (rowO i).toLoadRect fo)
      ((wM : Memref sig .tc .vmem S4x512x1024 .bf16).view.readAt (Elt F) (expW 0).toLoadRect fw)
      ((wM : Memref sig .tc .vmem S4x512x1024 .bf16).view.readAt (Elt F) (expW 1).toLoadRect fw)
      ((wM : Memref sig .tc .vmem S4x512x1024 .bf16).view.readAt (Elt F) (expW 2).toLoadRect fw)
      ((wM : Memref sig .tc .vmem S4x512x1024 .bf16).view.readAt (Elt F) (expW 3).toLoadRect fw)) Finset.univ

/-- The gate buffer after gate tile `i`. -/
def gateStep (fx : (cc0_stg0_0 : Ref sig .tc).ty.Contents (Elt F)) (frw : (cc0_stg1_0 : Ref sig .tc).ty.Contents (Elt F))
    (fix : (cc0_stg2_0 : Ref sig .tc).ty.Contents (Elt F)) (fg : (cc0_scratch2 : Ref sig .tc).ty.Contents (Elt F)) (i : Fin 8) :
    (cc0_scratch2 : Ref sig .tc).ty.Contents (Elt F) :=
  ((gM : Memref sig .tc .vmem S2048x128 .f32).access (rowG i) : View sig .tc _ _ _).write (Elt F) fg
    (gateVal ((xM : Memref sig .tc .vmem S2048x512 .f32).view.readAt (Elt F) (rowX i).toLoadRect fx)
      ((rwM : Memref sig .tc .vmem S512x128 .f32).view.readAt (Elt F) allR.toLoadRect frw)
      ((ixM : Memref sig .tc .vmem S2048x2 .i32).view.readAt (Elt F) (colI i 0).toLoadRect fix)
      ((ixM : Memref sig .tc .vmem S2048x2 .i32).view.readAt (Elt F) (colI i 1).toLoadRect fix)) Finset.univ

/-- All eight tiles in their order. -/
def allTiles (rnd src : BitVec 32) (fx : (cc0_scratch3 : Ref sig .tc).ty.Contents (Elt F)) (fg : (cc0_scratch2 : Ref sig .tc).ty.Contents (Elt F))
    (fw : (cc0_scratch0 : Ref sig .tc).ty.Contents (Elt F)) (fo : (cc0_stg4_0 : Ref sig .tc).ty.Contents (Elt F)) :
    (cc0_stg4_0 : Ref sig .tc).ty.Contents (Elt F) :=
  (List.finRange 8).foldl (tileStep rnd src fx fg fw) fo
def allGates (fx : (cc0_stg0_0 : Ref sig .tc).ty.Contents (Elt F)) (frw : (cc0_stg1_0 : Ref sig .tc).ty.Contents (Elt F))
    (fix : (cc0_stg2_0 : Ref sig .tc).ty.Contents (Elt F)) (fg : (cc0_scratch2 : Ref sig .tc).ty.Contents (Elt F)) :
    (cc0_scratch2 : Ref sig .tc).ty.Contents (Elt F) :=
  (List.finRange 8).foldl (gateStep fx frw fix) fg

section Run
variable (c : Dev nD)

/-- What the row tiles hold: the rounded tokens, the gate, the weights at any share, the output. -/
def tileRes (q : PosShare TreeShare) (fx : (cc0_scratch3 : Ref sig .tc).ty.Contents (Elt F)) (fg : (cc0_scratch2 : Ref sig .tc).ty.Contents (Elt F))
    (fw : (cc0_scratch0 : Ref sig .tc).ty.Contents (Elt F)) (fo : (cc0_stg4_0 : Ref sig .tc).ty.Contents (Elt F)) : sProp 𝕄 :=
  iprop(holds c cc0_scratch3 fullShare fx ∗ holds c cc0_scratch2 fullShare fg ∗ wPts c q fw ∗ holds c cc0_stg4_0 fullShare fo)

theorem wp_tile (rnd src : BitVec 32) (i : Fin 8) (q : PosShare TreeShare) (fx fg fw fo) (Q : PUnit → sProp 𝕄) :
    iprop(tileRes c q fx fg fw fo ∗ (tileRes c q fx fg fw (tileStep rnd src fx fg fw fo i) -∗ Q ⟨⟩)) ⊢ runs c (tile (F := F) rnd src i) Q := by
  unfold tile tileRes wPts
  simp only [Prog.lift, Prog.bind_op, Prog.bind_ret, Prog.pure_eq_ret]
  iintro ⟨⟨Hx, Hg, Hw, Ho⟩, Hk⟩
  iapply (wp_load 𝒱₀ (c : Thread nD τ) none Set.univ (m := xbM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rowO i) (Mk := Finset.univ) (Finset.subset_univ _)) $$ Ho; iintro Ho
  rw [wp_ret]; imodintro
  iapply Hk
  isplitl [Hx]; · iexact Hx
  isplitl [Hg]; · iexact Hg
  isplitl [Hw]; · iexact Hw
  iexact Ho

/-- A list of tiles, one after the other. -/
theorem wp_tiles (rnd src : BitVec 32) (q : PosShare TreeShare) (fx fg fw) (Q : PUnit → sProp 𝕄) (fo) :
    iprop(tileRes c q fx fg fw fo ∗ (tileRes c q fx fg fw (allTiles rnd src fx fg fw fo) -∗ Q ⟨⟩)) ⊢
      runs c (tile (F := F) rnd src 0) (fun _ => runs c (tile rnd src 1) (fun _ => runs c (tile rnd src 2) (fun _ => runs c (tile rnd src 3) (fun _ =>
        runs c (tile rnd src 4) (fun _ => runs c (tile rnd src 5) (fun _ => runs c (tile rnd src 6) (fun _ => runs c (tile rnd src 7) Q))))))) := by
  iintro ⟨H, Hk⟩
  iapply (wp_tile c rnd src 0 q fx fg fw); isplitl [H]; · iexact H
  iintro H
  iapply (wp_tile c rnd src 1 q fx fg fw); isplitl [H]; · iexact H
  iintro H
  iapply (wp_tile c rnd src 2 q fx fg fw); isplitl [H]; · iexact H
  iintro H
  iapply (wp_tile c rnd src 3 q fx fg fw); isplitl [H]; · iexact H
  iintro H
  iapply (wp_tile c rnd src 4 q fx fg fw); isplitl [H]; · iexact H
  iintro H
  iapply (wp_tile c rnd src 5 q fx fg fw); isplitl [H]; · iexact H
  iintro H
  iapply (wp_tile c rnd src 6 q fx fg fw); isplitl [H]; · iexact H
  iintro H
  iapply (wp_tile c rnd src 7 q fx fg fw); isplitl [H]; · iexact H
  iintro H
  iapply Hk
  iexact H

/-- What the gate tiles hold. -/
def gateRes (fx : (cc0_stg0_0 : Ref sig .tc).ty.Contents (Elt F)) (frw : (cc0_stg1_0 : Ref sig .tc).ty.Contents (Elt F))
    (fix : (cc0_stg2_0 : Ref sig .tc).ty.Contents (Elt F)) (fg : (cc0_scratch2 : Ref sig .tc).ty.Contents (Elt F)) : sProp 𝕄 :=
  iprop(holds c cc0_stg0_0 fullShare fx ∗ holds c cc0_stg1_0 fullShare frw ∗ holds c cc0_stg2_0 fullShare fix ∗ holds c cc0_scratch2 fullShare fg)

theorem wp_gateTile (i : Fin 8) (fx frw fix fg) (Q : PUnit → sProp 𝕄) :
    iprop(gateRes c fx frw fix fg ∗ (gateRes c fx frw fix (gateStep fx frw fix fg i) -∗ Q ⟨⟩)) ⊢ runs c (gateTile (F := F) i) Q := by
  unfold gateTile gateRes
  simp only [Prog.lift, Prog.bind_op, Prog.bind_ret, Prog.pure_eq_ret]
  iintro ⟨⟨Hx, Hr, Hi, Hg⟩, Hk⟩
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hr; iintro Hr
  iapply (wp_load 𝒱₀ (c : Thread nD τ) none Set.univ (m := ixM) (Finset.subset_univ _)) $$ Hi; iintro Hi
  iapply (wp_load 𝒱₀ (c : Thread nD τ) none Set.univ (m := ixM) (Finset.subset_univ _)) $$ Hi; iintro Hi
  iapply (wp_load 𝒱₀ (c : Thread nD τ) none Set.univ (m := gM) (Finset.subset_univ _)) $$ Hg; iintro Hg
  iapply (wp_store 𝒱₀ (c : Thread nD τ) none Set.univ (m := gM) (r := rowG i) (Mk := Finset.univ) (Finset.subset_univ _)) $$ Hg; iintro Hg
  rw [wp_ret]; imodintro
  iapply Hk
  isplitl [Hx]; · iexact Hx
  isplitl [Hr]; · iexact Hr
  isplitl [Hi]; · iexact Hi
  iexact Hg

/-- The tokens rounded, and the output at zero, as whole buffers. -/
def xbVal (fx : (cc0_stg0_0 : Ref sig .tc).ty.Contents (Elt F)) : (cc0_scratch3 : Ref sig .tc).ty.Contents (Elt F) := k0_pay1 fx
def zeroOut : (cc0_stg4_0 : Ref sig .tc).ty.Contents (Elt F) := k0_pay65

theorem off2 : (![0, 0] : Fin 2 → Nat) = fun _ => 0 := funext fun a => by fin_cases a <;> rfl
theorem off3 : (![0, 0, 0] : Fin 3 → Nat) = fun _ => 0 := funext fun a => by fin_cases a <;> rfl

theorem read_x (f : (cc0_stg0_0 : Ref sig .tc).ty.Contents (Elt F)) : (xM : Memref sig .tc .vmem S2048x512 .f32).view.readAt (Elt F) allX.toLoadRect f = f :=
  Memref.readAt_unit_zero (Elt F) cc0_stg0_0 off2 _ f
theorem read_in (f : (cc0_scratch1 : Ref sig .tc).ty.Contents (Elt F)) : (inM : Memref sig .tc .vmem S4x512x1024 .bf16).view.readAt (Elt F) allW.toLoadRect f = f :=
  Memref.readAt_unit_zero (Elt F) cc0_scratch1 off3 _ f
theorem write_w (f w : (cc0_scratch0 : Ref sig .tc).ty.Contents (Elt F)) :
    ((wM : Memref sig .tc .vmem S4x512x1024 .bf16).access allW : View sig .tc _ _ _).write (Elt F) f w Finset.univ = w :=
  Memref.write_access_unit_zero_univ (Elt F) cc0_scratch0 off3 _ f w
theorem write_o (f w : (cc0_stg4_0 : Ref sig .tc).ty.Contents (Elt F)) :
    ((oM : Memref sig .tc .vmem S2048x1024 .f32).access allO : View sig .tc _ _ _).write (Elt F) f w Finset.univ = w :=
  Memref.write_access_unit_zero_univ (Elt F) cc0_stg4_0 off2 _ f w
theorem write_xb (f w : (cc0_scratch3 : Ref sig .tc).ty.Contents (Elt F)) :
    ((xbM : Memref sig .tc .vmem S2048x512 .bf16).access allX : View sig .tc _ _ _).write (Elt F) f w Finset.univ = w :=
  Memref.write_access_unit_zero_univ (Elt F) cc0_scratch3 off2 _ f w

theorem wp_prologue (fx frw fix fg fo fb) (Q : PUnit → sProp 𝕄) :
    iprop(gateRes c fx frw fix fg ∗ holds c cc0_stg4_0 fullShare fo ∗ holds c cc0_scratch3 fullShare fb
        ∗ (gateRes c fx frw fix (allGates fx frw fix fg) ∗ holds c cc0_stg4_0 fullShare zeroOut ∗ holds c cc0_scratch3 fullShare (xbVal fx) -∗ Q ⟨⟩))
      ⊢ runs c (prologue (F := F)) Q := by
  unfold prologue
  simp only [wp_bind]
  iintro ⟨H, Ho, Hb, Hk⟩
  iapply (wp_gateTile c 0 fx frw fix); isplitl [H]; · iexact H
  iintro H
  iapply (wp_gateTile c 1 fx frw fix); isplitl [H]; · iexact H
  iintro H
  iapply (wp_gateTile c 2 fx frw fix); isplitl [H]; · iexact H
  iintro H
  iapply (wp_gateTile c 3 fx frw fix); isplitl [H]; · iexact H
  iintro H
  iapply (wp_gateTile c 4 fx frw fix); isplitl [H]; · iexact H
  iintro H
  iapply (wp_gateTile c 5 fx frw fix); isplitl [H]; · iexact H
  iintro H
  iapply (wp_gateTile c 6 fx frw fix); isplitl [H]; · iexact H
  iintro H
  iapply (wp_gateTile c 7 fx frw fix); isplitl [H]; · iexact H
  unfold gateRes
  iintro ⟨Hx, Hr, Hi, Hg⟩
  simp only [Prog.lift, ← wp_bind, Prog.bind_op, Prog.bind_ret, Prog.pure_eq_ret]
  iapply (wp_load 𝒱₀ (c : Thread nD τ) none Set.univ (m := oM) (Finset.subset_univ _)) $$ Ho; iintro Ho
  iapply (wp_store 𝒱₀ (c : Thread nD τ) none Set.univ (m := oM) (r := allO) (Mk := Finset.univ) (Finset.subset_univ _)) $$ Ho; iintro Ho
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hb; iintro Hb
  iapply (wp_store 𝒱₀ (c : Thread nD τ) none Set.univ (m := xbM) (r := allX) (Mk := Finset.univ) (Finset.subset_univ _)) $$ Hb; iintro Hb
  rw [wp_ret, write_o, write_xb, read_x]; imodintro
  iapply Hk
  isplitl [Hx Hr Hi Hg]
  · isplitl [Hx]; · iexact Hx
    isplitl [Hr]; · iexact Hr
    isplitl [Hi]; · iexact Hi
    iexact Hg
  isplitl [Ho]; · iexact Ho
  iexact Hb

end Run

end Cert.Moe

end
-- ==== Proof.Transfer.lean ====
/-
# The three parts of a trip that concern the ring

Before a trip with `k` transfers behind it a device holds `ring c k`: what it owes, its places at its own cells, the
payments and credits of the transfers still to come, and whichever landing buffer lies with it at that moment. The first
part of a trip may load weights; the second starts a transfer and leaves `flying c k`; the third completes it, `ring c (k+1)`.
-/
module

public import proofs.«01_k».proof.Proof.Compute
public import Idealize.ShloMosaic.Lib.Pointwise.Reshape

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The ghost state -/

/-- The invariants of the cells device `c` waits on or pays, and the levels. -/
def invs (K : Dev nD × Fin 4 → ℕ) (c : Dev nD) : sProp 𝕄 :=
  iprop(cellInv ER (ringRd m ρ) (K (c, 0)) (barCell c) ∗ cellInv ER (ringRd m ρ) (K (c, 1)) (sendCell c) ∗ cellInv ER (ringRd m ρ) (K (c, 2)) (recvCell c)
    ∗ cellInv ER (ringRd m ρ) (K (c, 3)) (credCell c)
    ∗ cellInv ER (ringRd m ρ) (K (nxt c, 0)) (barCell (nxt c)) ∗ cellInv ER (ringRd m ρ) (K (prv c, 0)) (barCell (prv c))
    ∗ cellInv ER (ringRd m ρ) (K (nxt c, 2)) (recvCell (nxt c)) ∗ cellInv ER (ringRd m ρ) (K (prv c, 3)) (credCell (prv c)) ∗ levAts L lv)

instance invs_persistent (K : Dev nD × Fin 4 → ℕ) (c : Dev nD) : BI.Persistent (invs (F := F) m ρ K c) := by unfold invs; infer_instance

/-- The payments of transfers `kr …` into the next device, of the departures `ks …`, of credits `j …` to the device before;
    the credits for the landings `k …` and for the credits `j' …` here. -/
def payRecv (c : Dev nD) (k : ℕ) : sProp 𝕄 := bigSep (Finset.Ico k 30) fun i => dutyTok ER (recvCell (nxt c)) i false
def paySend (c : Dev nD) (k : ℕ) : sProp 𝕄 := bigSep (Finset.Ico k 30) fun i => dutyTok ER (sendCell c) i false
def payCred (c : Dev nD) (k : ℕ) : sProp 𝕄 := bigSep (Finset.Ico k 29) fun i => dutyTok ER (credCell (prv c)) i false
def crRecv (c : Dev nD) (k : ℕ) : sProp 𝕄 := bigSep (Finset.Ico k 30) fun i => cred (tallyAt (recvCell c) i N)
def crCred (c : Dev nD) (k : ℕ) : sProp 𝕄 := bigSep (Finset.Ico k 29) fun i => cred (tallyAt (credCell c) i 1)

theorem peel {k n : ℕ} (h : k < n) (Φ : ℕ → sProp 𝕄) : bigSep (Finset.Ico k n) Φ = iprop(Φ k ∗ bigSep (Finset.Ico (k + 1) n) Φ) := by
  rw [Ico_peel h, bigSep_insert (by simp)]; rfl

def ring (c : Dev nD) (k : ℕ) : sProp 𝕄 :=
  iprop((∃ W, owes (c : Thread nD τ) (owed c k k) W)
    ∗ atPos ER (sendCell c) k ∅ 0 ∗ atPos ER (recvCell c) k ∅ 0 ∗ atPos ER (credCell c) (k - 1) ∅ 0
    ∗ reached ER (sendCell c) k ∗ reached ER (credCell c) (k - 1)
    ∗ payRecv c k ∗ paySend c k ∗ payCred c k ∗ crRecv c k ∗ crCred c (k - 1)
    ∗ (if k = 0 then barPay c else iprop(emp)) ∗ (if k = 30 then iprop(∃ f, inPts c f) else iprop(emp)))

def flying (c : Dev nD) (k : ℕ) : sProp 𝕄 :=
  iprop((∃ W, owes (c : Thread nD τ) (owed c (k + 1) k) W)
    ∗ atPos ER (sendCell c) k ∅ 0 ∗ atPos ER (recvCell c) k ∅ 0 ∗ atPos ER (credCell c) k ∅ 0 ∗ reached ER (credCell c) k
    ∗ cred (tallyAt (sendCell c) 0 N)
    ∗ payRecv c (k + 1) ∗ paySend c (k + 1) ∗ payCred c k ∗ crRecv c k ∗ crCred c k)

section Parts
variable (K : Dev nD × Fin 4 → ℕ) (c : Dev nD)

/-! ## The first part: weights loaded at the start of a round -/

theorem off1_eq (t : Fin k0_t1_loop.trips) (h : k0_cond1 t = 1#1) :
    (ewM : Memref sig .tc .vmem S8x512x1024 .f32).view.readAt (Elt F) (Rect.unit (s := S8x512x1024) (k0_off1 t) S4x512x1024.size (k0_off1_inb t h)).toLoadRect (ewstg m ρ c)
      = (ewM : Memref sig .tc .vmem S8x512x1024 .f32).view.readAt (Elt F) (Rect.unit (s := S8x512x1024) ![4 * (t.val / 16 % 2), 0, 0] S4x512x1024.size (chunk_inb (t.val / 16))).toLoadRect (ewstg m ρ c) := by
  have ht : t.val < 32 := lt_of_lt_of_eq t.isLt trips_eq
  have e : k0_off1 t = ![4 * (t.val / 16 % 2), 0, 0] := by rw [k0_off1_eq, Nat.mod_eq_of_lt (by omega : t.val / 16 < 2)]
  congr 1
  simp only [e]

theorem wp_headLoad (t : Fin k0_t1_loop.trips) (fw : (cc0_scratch0 : Ref sig .tc).ty.Contents (Elt F)) (hfw : t.val % 16 ≠ 0 → fw = wAt m ρ c t.val) (Q : PUnit → sProp 𝕄) :
    iprop(holds c cc0_stg3_0 fullShare (ewstg m ρ c) ∗ wPts c fullShare fw
        ∗ (holds c cc0_stg3_0 fullShare (ewstg m ρ c) ∗ wPts c fullShare (wAt m ρ c t.val) -∗ Q ⟨⟩))
      ⊢ runs c (headLoad (F := F) t) Q := by
  unfold headLoad wPts
  iintro ⟨He, Hw, Hk⟩
  by_cases h : k0_cond1 t = 1#1
  · rw [dif_pos h]
    simp only [Prog.lift, ← wp_bind, Prog.bind_op, Prog.bind_ret, Prog.pure_eq_ret]
    iapply (wp_load 𝒱₀ (c : Thread nD τ) none Set.univ (m := ewM) (Finset.subset_univ _)) $$ He; iintro He
    iapply (wp_load 𝒱₀ (c : Thread nD τ) none Set.univ (m := wM) (Finset.subset_univ _)) $$ Hw; iintro Hw
    iapply (wp_store 𝒱₀ (c : Thread nD τ) none Set.univ (m := wM) (r := allW) (Mk := Finset.univ) (Finset.subset_univ _)) $$ Hw; iintro Hw
    rw [wp_ret, write_w, off1_eq m ρ c t h]; imodintro
    iapply Hk
    isplitl [He]; · iexact He
    unfold wAt chunk
    rw [src_zero c t.val ((cond1_iff t).mp h)]
    iexact Hw
  · rw [dif_neg h, Prog.pure_eq_ret]; unfold runs; rw [wp_ret]; imodintro
    iapply Hk
    isplitl [He]; · iexact He
    rw [← hfw (fun e => h ((cond1_iff t).mpr e))]
    iexact Hw

/-! ## The second part: the transfer started -/

/-- The transfer, addressed to `n`, the next device. -/
theorem wp_send_ring (n : Dev nD) (hn : n = nxt c) (k : ℕ) (hk : k < 30)
    {hsc : (inM : Memref sig (Dev.tc n : Thread nD τ).2.kind .vmem S4x512x1024 .bf16).view.ref.isScScratch = false}
    {hsrc : (wM : Memref sig .tc .vmem S4x512x1024 .bf16).view.WordExact} {hdst : (inM : Memref sig .tc .vmem S4x512x1024 .bf16).view.WordExact}
    {hsem : DmaTarget.Typed .vmem (.dma recvS) (.remote (Dev.tc n : Thread nD τ) (inM : Memref sig .tc .vmem S4x512x1024 .bf16) (.dma sendS) hsc)}
    {α : Type} {Q : α → sProp 𝕄} {kk : PUnit → Prog (TpuEff nD τ sig (Elt F) Λ₀ .tc) α}
    (fn : Buf (Elt F) ((nxt c : Thread nD τ).loc cc0_scratch1)) (W : Waits sig ℕ) :
    iprop(cellInv ER (ringRd m ρ) (K (c, 1)) (sendCell c) ∗ cellInv ER (ringRd m ρ) (K (nxt c, 2)) (recvCell (nxt c))
        ∗ wPts c fullShare.right (wAt m ρ c (k + k / 15)) ∗ (inPts (nxt c) fn ∗ reached ER (credCell c) k)
        ∗ owes (c : Thread nD τ) (owed c k k) W
        ∗ dutyTok ER (sendCell c) k false ∗ reached ER (sendCell c) k
        ∗ dutyTok ER (recvCell (nxt c)) k false ∗ reached ER (recvCell (nxt c)) k)
      ⊢ iprop(((cred (tallyAt (sendCell c) 0 N) ∗ owes (c : Thread nD τ) (owed c (k + 1) k) W) -∗ runs c (kk ⟨⟩) Q)
          -∗ runs c (.op (.enqueueDma wM (.remote (Dev.tc n : Thread nD τ) inM (.dma sendS) hsc) (.dma recvS) hsrc hdst hsem) kk) Q) := by
  subst hn
  rw [wPts_view, inPts_view]
  exact Rounds.wp_send_pointsTo_with 𝒱₀ ER (ringRd m ρ) (c : Thread nD τ) none (κ₁ := K (c, 1)) (κ₂ := K (nxt c, 2))
    (r₁ := k) (r₂ := k) (d₁ := false) (d₂ := false) (fd := fn) (F := reached ER (credCell c) k)
    (by rw [duties_send m ρ c hk]; exact Finset.mem_singleton_self _) (by rw [duties_recv m ρ (nxt c) hk]; exact Finset.mem_singleton_self _)
    k 0 N rfl (amount_send m ρ c k false) (amount_recv m ρ (nxt c) k false) (owed c (k + 1) k) (owed_recv c k hk) (W := W)
    (by rw [payload_send]; unfold sendPay; rw [wPts_view])
    (by
      have hg : (k + k / 15) % 16 ≤ 14 := by omega
      rw [payload_recv]; unfold recvPay
      rw [landed_eq, ← wAt_prv m ρ (nxt c) (k + k / 15) hg, prv_nxt, inPts_view])

theorem wp_headSend (t : Fin k0_t1_loop.trips) (h : k0_cond2 t = 1#1) (Q : PUnit → sProp 𝕄) :
    iprop(invs m ρ K c ∗ ring c (sends t.val) ∗ wPts c fullShare (wAt m ρ c t.val)
        ∗ (flying c (sends t.val) ∗ wPts c fullShare.left (wAt m ρ c t.val) -∗ Q ⟨⟩))
      ⊢ runs c (headSend (F := F) c t) Q := by
  have ht : t.val < 32 := lt_of_lt_of_eq t.isLt trips_eq
  have h15 := (cond2_iff t).mp h
  have hk := sends_lt t.val ht h15
  have hg := sends_trip t.val h15
  have hk0 : sends t.val = 0 ↔ t.val = 0 := by unfold sends; omega
  unfold headSend
  rw [dif_pos h]
  unfold invs ring flying
  iintro ⟨⟨#HIbar, #HIsnd, #HIrcv, #HIcrd, #HIbarN, #HIbarP, #HIrcvN, #HIcrdP, #Hlev⟩,
    ⟨⟨%W, HO⟩, HatS, HatV, HatC, #HrS, #HrC, HpR, HpS, HpC, HcR, HcC, Hnx, -⟩, Hw, Hk⟩
  ihave Hw := (pointsTo_share (PosShare.mem_left_op_right fullShare)).1 $$ [Hw]
  · unfold wPts; iexact Hw
  icases Hw with ⟨HwL, HwR⟩
  generalize hkk : sends t.val = k at *
  ihave HpR := (Entails.of_eq (by unfold payRecv; exact peel hk _)) $$ HpR
  icases HpR with ⟨HtR, HpR⟩
  ihave HpS := (Entails.of_eq (by unfold paySend; exact peel hk _)) $$ HpS
  icases HpS with ⟨HtS, HpS⟩
  by_cases h3 : cond3 t = 1#1
  · have h1 := (cond3_iff t).mp h3
    obtain ⟨j, rfl⟩ : ∃ j, k = j + 1 := ⟨k - 1, by omega⟩
    simp only [h3, dite_true, semWaitWord, Prog.lift, ← wp_bind, Prog.bind_op, Prog.bind_ret, Prog.pure_eq_ret, Nat.add_sub_cancel]
    ihave HcC := (Entails.of_eq (by unfold crCred; exact peel (by omega) _)) $$ HcC
    icases HcC with ⟨Hc1, HcC⟩
    iapply (Rounds.wp_wait_rest_token 𝒱₀ ER (ringRd m ρ) (c : Thread nD τ) none (κ := K (c, 3))
      (wpE_semWait_eq 𝒱₀ (c : Thread nD τ) none Set.univ) (Set.mem_univ _) j (O := owed c (j + 1) (j + 1)) (W := W) (R := j) (m := 0) (T := ∅)
      (by rw [expect_cred m ρ c (by omega)]; decide)) $$ [Hc1 HO HatC]
    · isplitr; · iexact HIcrd
      isplitl [Hc1]; · iexact Hc1
      isplitl [HO]; · iexact HO
      isplitr
      · iapply (mayWait_of c (.reg credS) j (j + 1) (j + 1) (2 * j + 3) (by omega) (lv_cred c j).le (by omega) (by omega)); iexact Hlev
      iexact HatC
    iintro ⟨HO, HatC, #HrC', Hpay⟩
    ihave Hp := (Entails.of_eq (rest_cred m ρ c (by omega))) $$ Hpay
    unfold credPay
    icases Hp with ⟨⟨%fn, HinN⟩, #HrVN⟩
    iapply (wp_send_ring m ρ K c _ (dev3_eq c t h) (j + 1) hk fn _) $$ [HwR HinN HO HtS HtR]
    · isplitr; · iexact HIsnd
      isplitr; · iexact HIrcvN
      isplitl [HwR]; · unfold wPts; rw [hg]; iexact HwR
      isplitl [HinN]
      · isplitl [HinN]; · iexact HinN
        iexact HrC'
      isplitl [HO]; · iexact HO
      isplitl [HtS]; · iexact HtS
      isplitr; · iexact HrS
      isplitl [HtR]; · iexact HtR
      iexact HrVN
    iintro ⟨HcS, HO⟩
    unfold runs; rw [wp_ret]; imodintro
    iapply Hk
    isplitr [HwL]
    · isplitl [HO]; · iexists _; iexact HO
      isplitl [HatS]; · iexact HatS
      isplitl [HatV]; · iexact HatV
      isplitl [HatC]; · iexact HatC
      isplitr; · iexact HrC'
      isplitl [HcS]; · iexact HcS
      isplitl [HpR]; · unfold payRecv; iexact HpR
      isplitl [HpS]; · unfold paySend; iexact HpS
      isplitl [HpC]; · iexact HpC
      isplitl [HcR]; · iexact HcR
      unfold crCred; iexact HcC
    · unfold wPts; iexact HwL
  · have h0 : t.val = 0 := by
      by_contra hne; exact h3 ((cond3_iff t).mpr (by omega))
    obtain rfl : k = 0 := hk0.mpr h0
    simp only [h3, dite_false, Prog.lift, ← wp_bind, Prog.bind_op, Prog.bind_ret, Prog.pure_eq_ret, if_true]
    unfold barPay
    icases Hnx with ⟨⟨%fn, HinN⟩, #HrVN⟩
    iapply (wp_send_ring m ρ K c _ (dev3_eq c t h) 0 hk fn _) $$ [HwR HinN HO HtS HtR]
    · isplitr; · iexact HIsnd
      isplitr; · iexact HIrcvN
      isplitl [HwR]; · unfold wPts; rw [hg]; iexact HwR
      isplitl [HinN]
      · isplitl [HinN]; · iexact HinN
        iexact HrC
      isplitl [HO]; · iexact HO
      isplitl [HtS]; · iexact HtS
      isplitr; · iexact HrS
      isplitl [HtR]; · iexact HtR
      iexact HrVN
    iintro ⟨HcS, HO⟩
    unfold runs; rw [wp_ret]; imodintro
    iapply Hk
    isplitr [HwL]
    · isplitl [HO]; · iexists _; iexact HO
      isplitl [HatS]; · iexact HatS
      isplitl [HatV]; · iexact HatV
      isplitl [HatC]; · iexact HatC
      isplitr; · iexact HrC
      isplitl [HcS]; · iexact HcS
      isplitl [HpR]; · unfold payRecv; iexact HpR
      isplitl [HpS]; · unfold paySend; iexact HpS
      isplitl [HpC]; · iexact HpC
      isplitl [HcR]; · iexact HcR
      iexact HcC
    · unfold wPts; iexact HwL

theorem pay3_eq (f : (cc0_scratch0 : Ref sig .tc).ty.Contents (Elt F)) : k0_pay3 (F := F) f = f := by
  unfold k0_pay3; exact shapeCast_id _ _

/-! ## The third part: the transfers completed -/

theorem wp_tail (t : Fin k0_t1_loop.trips) (h : k0_cond4 t = 1#1) (Q : PUnit → sProp 𝕄) :
    iprop(invs m ρ K c ∗ flying c (sends t.val) ∗ wPts c fullShare.left (wAt m ρ c t.val)
        ∗ (ring c (sends t.val + 1) ∗ wPts c fullShare (wAt m ρ c (t.val + 1)) -∗ Q ⟨⟩))
      ⊢ runs c (tail (F := F) c t) Q := by
  have ht : t.val < 32 := lt_of_lt_of_eq t.isLt trips_eq
  have h15 := (cond4_iff t).mp h
  have hk := sends_lt t.val ht h15
  have hg := sends_trip t.val h15
  have hk30 : sends t.val < 29 ↔ t.val ≤ 29 := by unfold sends; omega
  unfold tail
  rw [dif_pos h]
  unfold invs ring flying
  simp only [Prog.lift, ← wp_bind, Prog.bind_op, Prog.bind_ret, Prog.pure_eq_ret]
  iintro ⟨⟨#HIbar, #HIsnd, #HIrcv, #HIcrd, #HIbarN, #HIbarP, #HIrcvN, #HIcrdP, #Hlev⟩,
    ⟨⟨%W, HO⟩, HatS, HatV, HatC, #HrC, HcS, HpR, HpS, HpC, HcR, HcC⟩, HwL, Hk⟩
  generalize hkk : sends t.val = k at *
  iapply (Rounds.wp_wait_rest_token 𝒱₀ ER (ringRd m ρ) (c : Thread nD τ) none (κ := K (c, 1))
    (wpE_waitDma2_eq 𝒱₀ (c : Thread nD τ) none Set.univ) (Set.mem_univ _) 0 (O := owed c (k + 1) k) (W := W) (R := k) (m := 0) (T := ∅)
    (by rw [expect_send m ρ c hk]; exact Nat.zero_add _)) $$ [HcS HO HatS]
  · isplitr; · iexact HIsnd
    isplitl [HcS]; · iexact HcS
    isplitl [HO]; · iexact HO
    isplitr
    · iapply (mayWait_of c (.dma sendS) 0 (k + 1) k 0 (by omega) (lv_other c sendS send_ne_recv 0).le (by omega) (by omega)); iexact Hlev
    iexact HatS
  iintro ⟨HO, HatS, #HrS, Hpay⟩
  ihave HwR := (Entails.of_eq (rest_send m ρ c hk)) $$ Hpay
  unfold sendPay wPts
  rw [hg]
  ihave Hw := (pointsTo_share (PosShare.mem_left_op_right fullShare)).2 $$ [HwL HwR]
  · isplitl [HwL] <;> iassumption
  ihave HcR := (Entails.of_eq (by unfold crRecv; exact peel hk _)) $$ HcR
  icases HcR with ⟨Hc1, HcR⟩
  iapply (Rounds.wp_wait_rest_token 𝒱₀ ER (ringRd m ρ) (c : Thread nD τ) none (κ := K (c, 2))
    (wpE_waitDma2_eq 𝒱₀ (c : Thread nD τ) none Set.univ) (Set.mem_univ _) k (O := owed c (k + 1) k) (W := insert (SemLoc.dma sendS, 0) W) (R := k) (m := 0) (T := ∅)
    (by rw [expect_recv m ρ c hk]; exact Nat.zero_add _)) $$ [Hc1 HO HatV]
  · isplitr; · iexact HIrcv
    isplitl [Hc1]; · iexact Hc1
    isplitl [HO]; · iexact HO
    isplitr
    · iapply (mayWait_of c (.dma recvS) k (k + 1) k (2 * k + 2) (by omega) (lv_recv c k).le (by omega) (by omega)); iexact Hlev
    iexact HatV
  iintro ⟨HO, HatV, #HrV, Hpay⟩
  ihave Hp := (Entails.of_eq (rest_recv m ρ c hk)) $$ Hpay
  unfold recvPay
  rw [hg]
  icases Hp with ⟨Hin, #HrCP⟩
  unfold inPts
  iapply (wp_load 𝒱₀ (c : Thread nD τ) none Set.univ (m := inM) (Finset.subset_univ _)) $$ Hin; iintro Hin
  iapply (wp_load 𝒱₀ (c : Thread nD τ) none Set.univ (m := wM) (Finset.subset_univ _)) $$ Hw; iintro Hw
  iapply (wp_store 𝒱₀ (c : Thread nD τ) none Set.univ (m := wM) (r := allW) (Mk := Finset.univ) (Finset.subset_univ _)) $$ Hw; iintro Hw
  rw [write_w, read_in, pay3_eq]
  by_cases h5 : k0_cond5 t = 1#1
  · have hk29 := hk30.mpr ((cond5_iff t).mp h5)
    simp only [h5, dite_true, semSignalWord, Prog.lift, ← wp_bind, Prog.bind_op, Prog.bind_ret, Prog.pure_eq_ret, dev4_eq c t h h5]
    ihave HpC := (Entails.of_eq (by unfold payCred; exact peel hk29 _)) $$ HpC
    icases HpC with ⟨HtC, HpC⟩
    iapply (Rounds.wp_signal 𝒱₀ ER (ringRd m ρ) (c : Thread nD τ) none (dst := (prv c : Thread nD τ)) (κ := K (prv c, 3)) (r := k)
        (d := false) (by rw [duties_cred m ρ (prv c) hk29]; exact Finset.mem_singleton_self _) ((amount_cred m ρ (prv c) k false).trans (by decide)) k
        (owed c (k + 1) (k + 1)) (owed_cred c (k + 1) hk29))
      $$ [HO HtC Hin]
    · isplitr; · iexact HIcrdP
      isplitl [HO]; · iexact HO
      isplitl [HtC]; · iexact HtC
      isplitl [Hin]
      · rw [payload_cred]; unfold credPay inPts; rw [nxt_prv]
        isplitl [Hin]; · iexists _; iexact Hin
        iexact HrV
      · iexact HrCP
    iintro HO
    rw [wp_ret]; imodintro
    iapply Hk
    isplitr [Hw]
    · rw [if_neg (by omega), if_neg (by omega), Nat.add_sub_cancel]
      isplitl [HO]; · iexists _; iexact HO
      isplitl [HatS]; · iexact HatS
      isplitl [HatV]; · iexact HatV
      isplitl [HatC]; · iexact HatC
      isplitr; · iexact HrS
      isplitr; · iexact HrC
      isplitl [HpR]; · iexact HpR
      isplitl [HpS]; · iexact HpS
      isplitl [HpC]; · unfold payCred; iexact HpC
      isplitl [HcR]; · unfold crRecv; iexact HcR
      isplitl [HcC]; · iexact HcC
      isplitr; · iempintro
      iempintro
    · iexact Hw
  · obtain rfl : k = 29 := by
      have : ¬ k < 29 := fun hlt => h5 ((cond5_iff t).mpr (hk30.mp hlt))
      omega
    simp only [h5, dite_false, Prog.lift, ← wp_bind, Prog.bind_op, Prog.bind_ret, Prog.pure_eq_ret]
    rw [wp_ret]; imodintro
    iapply Hk
    isplitr [Hw]
    · rw [if_neg (by decide), if_pos (by decide), Nat.add_sub_cancel]
      isplitl [HO]
      · iexists _; rw [← owed_cred_none c (29 + 1) (le_refl 29)]; iexact HO
      isplitl [HatS]; · iexact HatS
      isplitl [HatV]; · iexact HatV
      isplitl [HatC]; · iexact HatC
      isplitr; · iexact HrS
      isplitr; · iexact HrC
      isplitl [HpR]; · iexact HpR
      isplitl [HpS]; · iexact HpS
      isplitl [HpC]
      · unfold payCred
        rw [show Finset.Ico (29 + 1) 29 = Finset.Ico 29 29 by decide]; iexact HpC
      isplitl [HcR]; · unfold crRecv; iexact HcR
      isplitl [HcC]; · iexact HcC
      isplitr; · iempintro
      iexists _; iexact Hin
    · iexact Hw

end Parts

end Cert.Moe

end
-- ==== Proof.Tiles.lean ====
/-
# What the tiles leave, element by element

The eight tiles write eight disjoint bands of 256 rows, and each reads of the buffer it writes its own band at most. So
after all of them a band holds what its own tile stored, computed from what the band held before.
-/
module

public import proofs.«01_k».proof.Proof.Compute
public import Idealize.ShloMosaic.Lib.Writes

@[expose] public section

noncomputable section

namespace Cert.Moe

open Cert.KernelIdeal Cert.KernelIdeal.Gen
open Idealize.ShloMosaic
open Idealize.ShloMosaic.TcCoe

variable {F : FTy → Type} [FloatOps F]

/-- Eight steps, step `i` writing through rectangle `R i` a value that depends on what `R i` held at most: an element under
    `R i` ends as step `i` writes it from the contents at the start. -/
theorem foldl_bands {sp : Space} {s : Shape} {e : EltTy} (v : View sig .tc sp s e) (R : Fin 8 → Rect s)
    (W : (i : Fin 8) → v.ty.Contents (Elt F) → (R i).shape.Idx → Elt F e) (step : v.ty.Contents (Elt F) → Fin 8 → v.ty.Contents (Elt F))
    (hstep : ∀ f i, step f i = (v.slice (R i)).write (Elt F) f (W i f) Finset.univ)
    (hdisj : ∀ i j, i ≠ j → ∀ y, (R i).emb y ∉ (R j).set)
    (hW : ∀ i f f', (∀ y, v.read (Elt F) f ((R i).emb y) = v.read (Elt F) f' ((R i).emb y)) → W i f = W i f') (i : Fin 8) :
    ∀ (l : List (Fin 8)) (f : v.ty.Contents (Elt F)), l.Nodup → ∀ y,
      v.read (Elt F) (l.foldl step f) ((R i).emb y) = if i ∈ l then W i f y else v.read (Elt F) f ((R i).emb y)
  | [], f, _, y => by simp
  | j :: l, f, hn, y => by
    have hn' := List.nodup_cons.mp hn
    rw [List.foldl_cons, foldl_bands v R W step hstep hdisj hW i l (step f j) hn'.2 y]
    by_cases hij : i = j
    · subst hij
      rw [if_neg hn'.1, if_pos List.mem_cons_self, hstep, View.read_slice_write_emb _ _ _ (Finset.mem_univ _)]
    · have h0 : ∀ y, v.read (Elt F) (step f j) ((R i).emb y) = v.read (Elt F) f ((R i).emb y) := fun y => by
        rw [hstep, View.read_slice_write_of_not_mem _ _ _ _ (by rw [Rect.map_emb_univ]; exact hdisj i j hij y)]
      by_cases hil : i ∈ l
      · rw [if_pos hil, if_pos (List.mem_cons_of_mem _ hil), hW i _ _ h0]
      · rw [if_neg hil, if_neg (fun h => (List.mem_cons.mp h).elim hij hil), h0]

/-! ## The bands of rows -/

theorem band_disj {w : ℕ} (i j : Fin 8) (hij : i ≠ j) (y) :
    (Rect.unit (s := (⟨2, ![2048, w]⟩ : Shape)) ![256 * i.val, 0] (⟨2, ![256, w]⟩ : Shape).size (row_inb i)).emb y
      ∉ (Rect.unit (s := (⟨2, ![2048, w]⟩ : Shape)) ![256 * j.val, 0] (⟨2, ![256, w]⟩ : Shape).size (row_inb j)).set := by
  rw [Rect.mem_set_unit]
  intro h
  have h0 := h 0
  have hy : (y 0).val < 256 := (y 0).isLt
  have e : ((Rect.unit (s := (⟨2, ![2048, w]⟩ : Shape)) ![256 * i.val, 0] (⟨2, ![256, w]⟩ : Shape).size (row_inb i)).emb y 0).val = 256 * i.val + 1 * (y 0).val := rfl
  rw [e] at h0
  have h1 : 256 * j.val ≤ 256 * i.val + 1 * (y 0).val := h0.1
  have h2 : 256 * i.val + 1 * (y 0).val < 256 * j.val + 256 := h0.2
  exact hij (Fin.ext (by omega))

/-- The band and the place in it of a row. -/
theorem band_cover {w : ℕ} (p : (⟨2, ![2048, w]⟩ : Shape).Idx) :
    ∃ (i : Fin 8) (y : (⟨2, ![256, w]⟩ : Shape).Idx),
      (Rect.unit (s := (⟨2, ![2048, w]⟩ : Shape)) ![256 * i.val, 0] (⟨2, ![256, w]⟩ : Shape).size (row_inb i)).emb y = p := by
  have hp : (p 0).val < 2048 := (p 0).isLt
  have hmem : p ∈ (Rect.unit (s := (⟨2, ![2048, w]⟩ : Shape)) ![256 * ((p 0).val / 256), 0] (⟨2, ![256, w]⟩ : Shape).size
      (row_inb (⟨(p 0).val / 256, by omega⟩ : Fin 8))).set := by
    rw [Rect.mem_set_unit]
    intro a
    fin_cases a
    · show 256 * ((p 0).val / 256) ≤ (p 0).val ∧ (p 0).val < 256 * ((p 0).val / 256) + 256
      omega
    · have : (p 1).val < w := (p 1).isLt
      show 0 ≤ (p 1).val ∧ (p 1).val < 0 + w
      omega
  obtain ⟨y, hy⟩ := LoadRect.exists_idx_of_mem _ hmem
  exact ⟨⟨(p 0).val / 256, by omega⟩, y, hy⟩

/-! ## The gate and the output after all tiles -/

section
variable (fx : (cc0_stg0_0 : Ref sig .tc).ty.Contents (Elt F)) (frw : (cc0_stg1_0 : Ref sig .tc).ty.Contents (Elt F))
  (fix : (cc0_stg2_0 : Ref sig .tc).ty.Contents (Elt F))

theorem allGates_at (fg : (cc0_scratch2 : Ref sig .tc).ty.Contents (Elt F)) (i : Fin 8) (y : S256x128.Idx) :
    allGates fx frw fix fg ((rowG i).emb y)
      = gateVal ((xM : Memref sig .tc .vmem S2048x512 .f32).view.readAt (Elt F) (rowX i).toLoadRect fx)
          ((rwM : Memref sig .tc .vmem S512x128 .f32).view.readAt (Elt F) allR.toLoadRect frw)
          ((ixM : Memref sig .tc .vmem S2048x2 .i32).view.readAt (Elt F) (colI i 0).toLoadRect fix)
          ((ixM : Memref sig .tc .vmem S2048x2 .i32).view.readAt (Elt F) (colI i 1).toLoadRect fix) y :=
  (foldl_bands (gM : Memref sig .tc .vmem S2048x128 .f32).view (fun i => rowG i)
    (fun i _ => gateVal ((xM : Memref sig .tc .vmem S2048x512 .f32).view.readAt (Elt F) (rowX i).toLoadRect fx)
          ((rwM : Memref sig .tc .vmem S512x128 .f32).view.readAt (Elt F) allR.toLoadRect frw)
          ((ixM : Memref sig .tc .vmem S2048x2 .i32).view.readAt (Elt F) (colI i 0).toLoadRect fix)
          ((ixM : Memref sig .tc .vmem S2048x2 .i32).view.readAt (Elt F) (colI i 1).toLoadRect fix))
    (gateStep fx frw fix) (fun _ _ => rfl) (fun i j h y => band_disj i j h y) (fun _ _ _ _ => rfl) i (List.finRange 8) fg
    (List.nodup_finRange 8) y).trans (if_pos (List.mem_finRange i))

/-- What the gate buffer held before does not matter. -/
theorem allGates_eq (fg fg' : (cc0_scratch2 : Ref sig .tc).ty.Contents (Elt F)) : allGates fx frw fix fg = allGates fx frw fix fg' := by
  funext p
  obtain ⟨i, y, rfl⟩ := band_cover (w := 128) p
  exact (allGates_at fx frw fix fg i y).trans (allGates_at fx frw fix fg' i y).symm
end

theorem allTiles_at (rnd src : BitVec 32) (fx : (cc0_scratch3 : Ref sig .tc).ty.Contents (Elt F)) (fg : (cc0_scratch2 : Ref sig .tc).ty.Contents (Elt F))
    (fw : (cc0_scratch0 : Ref sig .tc).ty.Contents (Elt F)) (fo : (cc0_stg4_0 : Ref sig .tc).ty.Contents (Elt F)) (i : Fin 8) (y : S256x1024.Idx) :
    allTiles rnd src fx fg fw fo ((rowO i).emb y)
      = tileVal rnd src ((xbM : Memref sig .tc .vmem S2048x512 .bf16).view.readAt (Elt F) (rowX i).toLoadRect fx)
          ((gM : Memref sig .tc .vmem S2048x128 .f32).view.readAt (Elt F) (rowG i).toLoadRect fg)
          ((oM : Memref sig .tc .vmem S2048x1024 .f32).view.readAt (Elt F) (rowO i).toLoadRect fo)
          ((wM : Memref sig .tc .vmem S4x512x1024 .bf16).view.readAt (Elt F) (expW 0).toLoadRect fw)
          ((wM : Memref sig .tc .vmem S4x512x1024 .bf16).view.readAt (Elt F) (expW 1).toLoadRect fw)
          ((wM : Memref sig .tc .vmem S4x512x1024 .bf16).view.readAt (Elt F) (expW 2).toLoadRect fw)
          ((wM : Memref sig .tc .vmem S4x512x1024 .bf16).view.readAt (Elt F) (expW 3).toLoadRect fw) y :=
  (foldl_bands (oM : Memref sig .tc .vmem S2048x1024 .f32).view (fun i => rowO i)
    (fun i fo => tileVal rnd src ((xbM : Memref sig .tc .vmem S2048x512 .bf16).view.readAt (Elt F) (rowX i).toLoadRect fx)
          ((gM : Memref sig .tc .vmem S2048x128 .f32).view.readAt (Elt F) (rowG i).toLoadRect fg)
          ((oM : Memref sig .tc .vmem S2048x1024 .f32).view.readAt (Elt F) (rowO i).toLoadRect fo)
          ((wM : Memref sig .tc .vmem S4x512x1024 .bf16).view.readAt (Elt F) (expW 0).toLoadRect fw)
          ((wM : Memref sig .tc .vmem S4x512x1024 .bf16).view.readAt (Elt F) (expW 1).toLoadRect fw)
          ((wM : Memref sig .tc .vmem S4x512x1024 .bf16).view.readAt (Elt F) (expW 2).toLoadRect fw)
          ((wM : Memref sig .tc .vmem S4x512x1024 .bf16).view.readAt (Elt F) (expW 3).toLoadRect fw))
    (tileStep rnd src fx fg fw) (fun _ _ => rfl) (fun i j h y => band_disj i j h y)
    (fun i f f' h => by
      have e : (oM : Memref sig .tc .vmem S2048x1024 .f32).view.readAt (Elt F) (rowO i).toLoadRect f
          = (oM : Memref sig .tc .vmem S2048x1024 .f32).view.readAt (Elt F) (rowO i).toLoadRect f' := funext h
      rw [e]) i (List.finRange 8) fo
    (List.nodup_finRange 8) y).trans (if_pos (List.mem_finRange i))

end Cert.Moe

end
-- ==== Proof.BodyText.lean ====
/-
# The printed body is the body stated tile by tile
-/
module

public import proofs.«01_k».proof.Proof.Program

@[expose] public section

noncomputable section

namespace Cert.Moe

open Cert.KernelIdeal Cert.KernelIdeal.Gen
open Idealize.ShloMosaic Idealize.ShloMosaic.TcCoe Idealize.SL.Sem

variable {F : FTy → Type} [FloatOps F]

set_option maxRecDepth 65536 in
set_option maxHeartbeats 4000000 in
theorem body_eq :
    cc0_body (F := F) xM (Memref.isWhole_whole _) rwM (Memref.isWhole_whole _) ixM (Memref.isWhole_whole _) ewM (Memref.isWhole_whole _) oM (Memref.isWhole_whole _)
      wM (Memref.isWhole_whole _) inM (Memref.isWhole_whole _) gM (Memref.isWhole_whole _) xbM (Memref.isWhole_whole _) cc0_scratch4 cc0_scratch5 cc0_scratch6
      = body := by
  rw [cc0_body_eq_skeleton]
  unfold cc0_body_skel body
  simp only [k0_part16_eq_skeleton, k0_part17_eq_skeleton, k0_part18_eq_skeleton, k0_part19_eq_skeleton, k0_part20_eq_skeleton, k0_part21_eq_skeleton,
    k0_part22_eq_skeleton, k0_part23_eq_skeleton, k0_part24_eq_skeleton]
  unfold k0_part16_skel k0_part17_skel k0_part18_skel k0_part19_skel k0_part20_skel k0_part21_skel k0_part22_skel k0_part23_skel k0_part24_skel
    barrier prologue gateTile
  simp only [← trip_eq _ 0#32]
  rfl

end Cert.Moe

end
-- ==== Proof.Body.lean ====
/-
# The whole body

A trip, by the parts of the trip; the loop, by the invariant `before g`; the barrier and the prologue before it. The body is
run once, at a symbolic device.
-/
module

public import proofs.«01_k».proof.Proof.Transfer
public import proofs.«01_k».proof.Proof.Tiles
public import proofs.«01_k».proof.Proof.BodyText

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The values -/

/-- The round and the source device of trip `g`, as words. -/
def rndN (g : ℕ) : BitVec 32 := Scalar.divsi (Scf.iv 0#32 1#32 g) 16#32
def srcN (v2 : BitVec 32) (g : ℕ) : BitVec 32 :=
  Scalar.remsi (Scalar.addi (Scalar.subi v2 (Scalar.remsi (Scf.iv 0#32 1#32 g) 16#32)) 16#32) 16#32

/-- The gate of device `c`'s tokens: every element is written, so what is under it is of no account. -/
def gateAt (c : Dev nD) : (cc0_scratch2 : Ref sig .tc).ty.Contents (Elt F) :=
  allGates (xstg m ρ c) (rwstg m ρ c) (ixstg m ρ c) (broadcast S2048x128 (Scalar.ofBits .f32 0x00000000#32))

theorem gateAt_of (c : Dev nD) (fg) : allGates (xstg m ρ c) (rwstg m ρ c) (ixstg m ρ c) fg = gateAt m ρ c := allGates_eq _ _ _ _ _

/-- The output before trip `g`. -/
def outs (c : Dev nD) : ℕ → (cc0_stg4_0 : Ref sig .tc).ty.Contents (Elt F)
  | 0 => zeroOut
  | g + 1 => allTiles (rndN g) (srcN (meW c) g) (xbVal (xstg m ρ c)) (gateAt m ρ c) (wAt m ρ c g) (outs c g)

/-! ## A trip and the loop -/

section Loop
variable (K : Dev nD × Fin 4 → ℕ) (c : Dev nD)

/-- What device `c` holds before trip `g`. -/
def before (g : ℕ) : sProp 𝕄 :=
  iprop(invs m ρ K c ∗ ring c (sends g) ∗ (∃ fw, ⌜g % 16 ≠ 0 → fw = wAt m ρ c g⌝ ∗ wPts c fullShare fw) ∗ holds c cc0_stg3_0 fullShare (ewstg m ρ c)
    ∗ holds c cc0_scratch3 fullShare (xbVal (xstg m ρ c)) ∗ holds c cc0_scratch2 fullShare (gateAt m ρ c) ∗ holds c cc0_stg4_0 fullShare (outs m ρ c g))

theorem wp_trip (t : Fin k0_t1_loop.trips) :
    before m ρ K c t.val ⊢ runs c (trip (F := F) c (meW c) t) (fun _ => before m ρ K c (t.val + 1)) := by
  unfold trip before runs
  simp only [wp_bind]
  iintro ⟨#HI, Hring, ⟨%fw, %hfw, Hw⟩, He, Hx, Hg, Ho⟩
  iapply (wp_headLoad m ρ c t fw hfw); isplitl [He]; · iexact He
  isplitl [Hw]; · iexact Hw
  iintro ⟨He, Hw⟩
  by_cases h15 : t.val % 16 ≤ 14
  · iapply (wp_headSend m ρ K c t ((cond2_iff t).mpr h15)); isplitr; · iexact HI
    isplitl [Hring]; · iexact Hring
    isplitl [Hw]; · iexact Hw
    iintro ⟨Hfly, Hw⟩
    iapply (wp_tiles c (rndW t) (srcW (meW c) t) fullShare.left (xbVal (xstg m ρ c)) (gateAt m ρ c) (wAt m ρ c t.val))
    unfold tileRes
    isplitl [Hx Hg Hw Ho]
    · isplitl [Hx]; · iexact Hx
      isplitl [Hg]; · iexact Hg
      isplitl [Hw]; · iexact Hw
      iexact Ho
    iintro ⟨Hx, Hg, Hw, Ho⟩
    iapply (wp_tail m ρ K c t ((cond4_iff t).mpr h15)); isplitr; · iexact HI
    isplitl [Hfly]; · iexact Hfly
    isplitl [Hw]; · iexact Hw
    iintro ⟨Hring, Hw⟩
    isplitr; · iexact HI
    isplitl [Hring]; · rw [sends_succ t.val h15]; iexact Hring
    isplitl [Hw]
    · iexists (wAt m ρ c (t.val + 1)); isplitr; · ipureintro; exact fun _ => rfl
      iexact Hw
    isplitl [He]; · iexact He
    isplitl [Hx]; · iexact Hx
    isplitl [Hg]; · iexact Hg
    iexact Ho
  · have h2 : ¬ k0_cond2 t = 1#1 := fun h => h15 ((cond2_iff t).mp h)
    have h4 : ¬ k0_cond4 t = 1#1 := fun h => h15 ((cond4_iff t).mp h)
    unfold headSend tail
    rw [dif_neg h2, dif_neg h4, Prog.pure_eq_ret, wp_ret]
    imodintro
    iapply (wp_tiles c (rndW t) (srcW (meW c) t) fullShare (xbVal (xstg m ρ c)) (gateAt m ρ c) (wAt m ρ c t.val))
    unfold tileRes
    isplitl [Hx Hg Hw Ho]
    · isplitl [Hx]; · iexact Hx
      isplitl [Hg]; · iexact Hg
      isplitl [Hw]; · iexact Hw
      iexact Ho
    iintro ⟨Hx, Hg, Hw, Ho⟩
    rw [wp_ret]; imodintro
    isplitr; · iexact HI
    isplitl [Hring]; · rw [sends_last t.val (by omega)]; iexact Hring
    isplitl [Hw]
    · iexists (wAt m ρ c t.val); isplitr; · ipureintro; exact fun h => absurd (show (t.val + 1) % 16 = 0 by omega) h
      iexact Hw
    isplitl [He]; · iexact He
    isplitl [Hx]; · iexact Hx
    isplitl [Hg]; · iexact Hg
    iexact Ho

end Loop

/-! ## The proof data -/

/-- What a device starts from besides its buffers: the invariants at some names, its places, the marks and payments of the
    barrier and all payments of the ring. -/
def ghost (K : Dev nD × Fin 4 → ℕ) (c : Dev nD) : sProp 𝕄 :=
  iprop(invs m ρ K c
    ∗ (atPos ER (barCell c) 0 ∅ 0 ∗ atPos ER (sendCell c) 0 ∅ 0 ∗ atPos ER (recvCell c) 0 ∅ 0 ∗ atPos ER (credCell c) 0 ∅ 0)
    ∗ (reached ER (barCell (nxt c)) 0 ∗ reached ER (barCell (prv c)) 0 ∗ reached ER (sendCell c) 0 ∗ reached ER (recvCell c) 0 ∗ reached ER (credCell c) 0)
    ∗ dutyTok ER (barCell (nxt c)) 0 false ∗ dutyTok ER (barCell (prv c)) 0 true ∗ payRecv c 0 ∗ paySend c 0 ∗ payCred c 0)

def credits (c : Dev nD) : sProp 𝕄 := iprop(cred (tallyAt (barCell c) 0 2) ∗ crRecv c 0 ∗ crCred c 0)

def start (c : Dev nD) : sProp 𝕄 := iprop((∃ K, ghost m ρ K c) ∗ credits c)

/-- The scratch buffers at some contents. -/
def scratch (c : Dev nD) : sProp 𝕄 :=
  iprop((∃ f, wPts c fullShare f) ∗ (∃ f, inPts c f) ∗ (∃ f, holds c cc0_scratch2 fullShare f) ∗ (∃ f, holds c cc0_scratch3 fullShare f))

def Φ₀ (c : Dev nD) : sProp 𝕄 := iprop(start m ρ c ∗ scratch c)
/-- After the point: the scratch buffers, and the four cells closed at zero. -/
def Φ₁ (c : Dev nD) : sProp 𝕄 :=
  iprop(scratch c ∗ semVal (sendCell c) 0 ∗ semVal (recvCell c) 0 ∗ semVal (credCell c) 0 ∗ semVal (barCell c) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => ixstg m ρ c
    | ⟨3, _⟩ => ewstg m ρ c
    | ⟨4, _⟩ => outs m ρ c 32
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_all (w : Fin 5) (hw : w.val < 4) : (cfg0.win w).fetch t0_0 = true := by revert w; decide

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt 0 t0_0.succ ∗ stg c cc0_stg0_0 (xstg m ρ c) ∗ stg c cc0_stg1_0 (rwstg m ρ c) ∗ stg c cc0_stg2_0 (ixstg m ρ c)
    ∗ stg c cc0_stg3_0 (ewstg m ρ c) ∗ stg c cc0_stg4_0 (outs m ρ c 32))

/-! ## The barrier -/

/-- The barrier takes in the landing buffer and gives what the first transfer needs. -/
theorem wp_barrier (K : Dev nD × Fin 4 → ℕ) (c : Dev nD) (W : Waits sig ℕ) (Q : PUnit → sProp 𝕄) :
    iprop(invs m ρ K c ∗ atPos ER (barCell c) 0 ∅ 0 ∗ reached ER (barCell (nxt c)) 0 ∗ reached ER (barCell (prv c)) 0 ∗ reached ER (recvCell c) 0
        ∗ dutyTok ER (barCell (nxt c)) 0 false ∗ dutyTok ER (barCell (prv c)) 0 true ∗ cred (tallyAt (barCell c) 0 2) ∗ owes (c : Thread nD τ) (O₀ c) W
        ∗ (∃ f, inPts c f) ∗ ((∃ W', owes (c : Thread nD τ) (owed c 0 0) W') ∗ atPos ER (barCell c) 1 ∅ 0 ∗ barPay c -∗ Q ⟨⟩))
      ⊢ runs c (barrier (F := F) c) Q := by
  unfold barrier invs
  simp only [semSignalWord, semWaitWord, Prog.lift, Prog.bind_op, Prog.bind_ret, Prog.pure_eq_ret, dev1_eq c, dev2_eq c]
  iintro ⟨⟨#HIbar, #HIsnd, #HIrcv, #HIcrd, #HIbarN, #HIbarP, #HIrcvN, #HIcrdP, #Hlev⟩, HatB, #HrBN, #HrBP, #HrV, HtN, HtP, HcB, HO, Hin, Hk⟩
  iapply (Rounds.wp_signal 𝒱₀ ER (ringRd m ρ) (c : Thread nD τ) none (dst := (prv c : Thread nD τ)) (κ := K (prv c, 0)) (r := 0)
      (d := true) (by rw [duties_bar]; exact Finset.mem_univ _) ((amount_bar m ρ (prv c) 0 true).trans (by decide)) 0 (O₁ c) rfl)
    $$ [HO HtP Hin]
  · isplitr; · iexact HIbarP
    isplitl [HO]; · iexact HO
    isplitl [HtP]; · iexact HtP
    isplitl [Hin]
    · rw [payload_bar_true]; unfold barPay; rw [nxt_prv]
      isplitl [Hin]; · iexact Hin
      iexact HrV
    · iexact HrBP
  iintro HO
  iapply (Rounds.wp_signal 𝒱₀ ER (ringRd m ρ) (c : Thread nD τ) none (dst := (nxt c : Thread nD τ)) (κ := K (nxt c, 0)) (r := 0)
      (d := false) (by rw [duties_bar]; exact Finset.mem_univ _) ((amount_bar m ρ (nxt c) 0 false).trans (by decide)) 0 (owed c 0 0) rfl)
    $$ [HO HtN]
  · isplitr; · iexact HIbarN
    isplitl [HO]; · iexact HO
    isplitl [HtN]; · iexact HtN
    isplitr; · rw [payload_bar_false]; iempintro
    iexact HrBN
  iintro HO
  iapply (Rounds.wp_wait_rest_token 𝒱₀ ER (ringRd m ρ) (c : Thread nD τ) none (κ := K (c, 0))
      (wpE_semWait_eq 𝒱₀ (c : Thread nD τ) none Set.univ) (Set.mem_univ _) 0 (O := owed c 0 0) (W := W) (R := 0) (m := 0) (T := ∅)
      (by rw [expect_bar]; decide)) $$ [HcB HO HatB]
  · isplitr; · iexact HIbar
    isplitl [HcB]; · iexact HcB
    isplitl [HO]; · iexact HO
    isplitr
    · iapply (mayWait_of c (.reg barS) 0 0 0 1 (by omega) (lv_bar c 0).le (by omega) (by omega)); iexact Hlev
    iexact HatB
  iintro ⟨HO, HatB, -, Hpay⟩
  ihave Hp := (Entails.of_eq (rest_bar m ρ c)) $$ Hpay
  icases Hp with ⟨-, Hp⟩
  rw [wp_ret]; imodintro
  iapply Hk
  isplitl [HO]; · iexists _; iexact HO
  isplitl [HatB]; · iexact HatB
  iexact Hp

/-! ## The body -/

theorem later_bar (c : Dev nD) (r : ℕ) (hr : 1 ≤ r) : (ringRd (F := F) m ρ).duties (barCell c) r = ∅ := duties_bar_later m ρ c r hr
theorem later_send (c : Dev nD) (r : ℕ) (hr : 30 ≤ r) : (ringRd (F := F) m ρ).duties (sendCell c) r = ∅ := by rw [duties_send', if_neg (by omega)]
theorem later_recv (c : Dev nD) (r : ℕ) (hr : 30 ≤ r) : (ringRd (F := F) m ρ).duties (recvCell c) r = ∅ := by rw [duties_recv', if_neg (by omega)]
theorem later_cred (c : Dev nD) (r : ℕ) (hr : 29 ≤ r) : (ringRd (F := F) m ρ).duties (credCell c) r = ∅ := by rw [duties_cred', if_neg (by omega)]

theorem staged (c : Dev nD) (w : Fin 5) (hw : w.val < 4) (d) :
    (dats m ρ 0 c).before w t0_0 d = (dats m ρ 0 c).fetched w t0_0 d := by
  unfold Dat.before; rw [if_pos (fetch_all w hw)]

set_option maxHeartbeats 800000 in
theorem sound_body (c : Dev nD) : bodyPre m ρ c ⊢ runs c (body (F := F)) (fun _ => bodyPost m ρ c) := by
  unfold body
  simp only [Prog.lift, Prog.bind_op, Prog.bind_ret, Prog.pure_eq_ret, wp_deviceId]
  unfold bodyPre Φ₀ start ghost credits scratch Dat.owesAt Pipeline.owesWithin
  iintro ⟨⟨⟨⟨%K, #HI, ⟨HatB, HatS, HatV, HatC⟩, ⟨#HrBN, #HrBP, #HrS, #HrV, #HrC⟩, HtN, HtP, HpR, HpS, HpC⟩, HcB, HcR, HcC⟩,
      ⟨%fw, Hw⟩, Hin, ⟨%fg, Hg⟩, ⟨%fb, Hb⟩⟩, Ho, ⟨%d0, %g0, %hg0, Hx⟩, ⟨%d1, %g1, %hg1, Hr⟩, ⟨%d2, %g2, %hg2, Hi⟩, ⟨%d3, %g3, %hg3, He⟩, ⟨%d4, %g4, %hg4, Hout⟩⟩
  have hx : g0 = xstg m ρ c := by rw [hg0, staged m ρ c 0 (by decide)]; rfl
  have hr : g1 = rwstg m ρ c := by rw [hg1, staged m ρ c 1 (by decide)]; rfl
  have hi : g2 = ixstg m ρ c := by rw [hg2, staged m ρ c 2 (by decide)]; rfl
  have he : g3 = ewstg m ρ c := by rw [hg3, staged m ρ c 3 (by decide)]; rfl
  subst hx; subst hr; subst hi; subst he
  icases Ho with ⟨%W, %hW, HO⟩
  rw [show (dats m ρ 0 c).owed t0_0.castSucc = O₀ c from rfl]
  simp only [wp_bind]
  iapply (wp_barrier m ρ K c W)
  isplitr; · iexact HI
  isplitl [HatB]; · iexact HatB
  isplitr; · iexact HrBN
  isplitr; · iexact HrBP
  isplitr; · iexact HrV
  isplitl [HtN]; · iexact HtN
  isplitl [HtP]; · iexact HtP
  isplitl [HcB]; · iexact HcB
  isplitl [HO]; · iexact HO
  isplitl [Hin]; · iexact Hin
  iintro ⟨HO, HatB, Hbar⟩
  iapply (wp_prologue c (xstg m ρ c) (rwstg m ρ c) (ixstg m ρ c) fg g4 fb)
  unfold gateRes
  isplitl [Hx Hr Hi Hg]
  · isplitl [Hx]; · iexact Hx
    isplitl [Hr]; · iexact Hr
    isplitl [Hi]; · iexact Hi
    iexact Hg
  isplitl [Hout]; · iexact Hout
  isplitl [Hb]; · iexact Hb
  rw [gateAt_of m ρ c fg]
  iintro ⟨⟨Hx, Hr, Hi, Hg⟩, Hout, Hb⟩
  iapply (Scf.wp_for frame (wpE (defs₀ (F := F)) 𝒱₀ (c : Thread nD τ) none) Set.univ k0_t1_loop.lb k0_t1_loop.ub k0_t1_loop.st k0_t1_ok ⟨⟩
    (fun t _ => trip c (meW c) t) (fun g _ => before m ρ K c g) (fun t _ => wp_trip m ρ K c t))
  isplitl [HO HatS HatV HatC HpR HpS HpC HcR HcC Hbar Hw He Hb Hg Hout]
  · unfold before ring
    rw [show sends 0 = 0 from rfl]
    isplitr; · iexact HI
    isplitl [HO HatS HatV HatC HpR HpS HpC HcR HcC Hbar]
    · isplitl [HO]; · iexact HO
      isplitl [HatS]; · iexact HatS
      isplitl [HatV]; · iexact HatV
      isplitl [HatC]; · iexact HatC
      isplitr; · iexact HrS
      isplitr; · iexact HrC
      isplitl [HpR]; · iexact HpR
      isplitl [HpS]; · iexact HpS
      isplitl [HpC]; · iexact HpC
      isplitl [HcR]; · iexact HcR
      isplitl [HcC]; · iexact HcC
      rw [if_pos rfl, if_neg (by decide)]
      isplitl [Hbar]; · iexact Hbar
      iempintro
    isplitl [Hw]
    · iexists fw; isplitr; · ipureintro; exact fun h => absurd rfl h
      iexact Hw
    isplitl [He]; · iexact He
    isplitl [Hb]; · iexact Hb
    isplitl [Hg]
    · iexact Hg
    iexact Hout
  iintro %u HB
  rw [show Scf.trips k0_t1_loop.lb k0_t1_loop.ub k0_t1_loop.st = 32 from trips_eq]
  unfold before ring invs
  rw [show sends 32 = 30 from by decide, owed_done, if_neg (by decide), if_pos (by decide)]
  icases HB with ⟨⟨#HIbar, #HIsnd, #HIrcv, #HIcrd, #HIbarN, #HIbarP, #HIrcvN, #HIcrdP, #Hlev⟩,
    ⟨⟨%W', HO⟩, HatS, HatV, HatC, -, -, -, -, -, -, -, -, Hin⟩, ⟨%fw', %hfw', Hw⟩, He, Hb, Hg, Hout⟩
  rw [wp_ret]
  imod (Rounds.cell_close ER (ringRd m ρ) (Set.mem_univ (K (c, 1))) (fun h => h) (R := 30) (later_send m ρ c)) $$ [HatS] with HzS
  · isplitr; · iexact HIsnd
    iexact HatS
  imod (Rounds.cell_close ER (ringRd m ρ) (Set.mem_univ (K (c, 2))) (fun h => h) (R := 30) (later_recv m ρ c)) $$ [HatV] with HzV
  · isplitr; · iexact HIrcv
    iexact HatV
  imod (Rounds.cell_close ER (ringRd m ρ) (Set.mem_univ (K (c, 3))) (fun h => h) (R := 29) (later_cred m ρ c)) $$ [HatC] with HzC
  · isplitr; · iexact HIcrd
    iexact HatC
  imod (Rounds.cell_close ER (ringRd m ρ) (Set.mem_univ (K (c, 0))) (fun h => h) (R := 1) (later_bar m ρ c)) $$ [HatB] with HzB
  · isplitr; · iexact HIbar
    iexact HatB
  imodintro
  unfold bodyPost Φ₁ scratch Dat.owesAt Pipeline.owesWithin
  rw [show (dats m ρ 0 c).owed t0_0.succ = 0 from rfl]
  isplitl [Hw Hin Hg Hb HzS HzV HzC HzB]
  · isplitl [Hw Hin Hg Hb]
    · isplitl [Hw]; · iexists _; iexact Hw
      isplitl [Hin]; · iexact Hin
      isplitl [Hg]; · iexists _; iexact Hg
      iexists _; iexact Hb
    isplitl [HzS]; · iexact HzS
    isplitl [HzV]; · iexact HzV
    isplitl [HzC]; · iexact HzC
    iexact HzB
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  iexists _; isplitr; · (ipureintro; rfl)
  iexact Hout

set_option maxRecDepth 4000 in
/-- The library's body obligation on device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  have h := sound_body m ρ c
  rw [← body_eq] at h
  exact h

end Cert.Moe

end
-- ==== Proof.Launch.lean ====
/-
# The launch

Every device's cells are funded at once, the payments dealt round the ring, the invariants allocated, and the run concluded by
the library's theorem for one region whose devices owe each other.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 4 → GSem nD τ sig) := by
  rintro ⟨c, k⟩ ⟨c', k'⟩ h
  have h1 : c = c' := congrArg (fun g : GSem nD τ sig => g.1.1) h
  have h2 : csem k = csem k' := congrArg Prod.snd h
  have h3 : k = k' := by clear h h1; revert k k'; decide
  rw [h1, h3]
def ringCells : Finset (GSem nD τ sig) := Finset.univ.map ⟨kcell, kcell_injective⟩

/-! ## The payments as minted -/

/-- A payment due at one of a device's own cells: at the barrier one of two, at the others one per round. -/
abbrev Due : Type := Bool ⊕ Fin 30 ⊕ Fin 30 ⊕ Fin 29
def tokOf (x : Dev nD × Due) : GSem nD τ sig × ℕ × Bool :=
  match x.2 with
  | .inl b => (barCell x.1, 0, b)
  | .inr (.inl i) => (recvCell x.1, i.val, false)
  | .inr (.inr (.inl i)) => (sendCell x.1, i.val, false)
  | .inr (.inr (.inr i)) => (credCell x.1, i.val, false)

theorem tokOf_dev (x : Dev nD × Due) : (tokOf x).1.1.1 = x.1 := by
  rcases x with ⟨c, _ | _ | _ | _⟩ <;> rfl
theorem tokOf_injective : Function.Injective tokOf := by
  rintro ⟨c, j⟩ ⟨c', j'⟩ h
  have h1 : c = c' := (tokOf_dev (c, j)).symm.trans ((congrArg (fun x : GSem nD τ sig × ℕ × Bool => x.1.1.1) h).trans (tokOf_dev (c', j')))
  subst h1
  have hs : (tokOf (c, j)).1.2 = (tokOf (c, j')).1.2 := by rw [h]
  have hr : (tokOf (c, j)).2 = (tokOf (c, j')).2 := by rw [h]
  rcases j with b | i | i | i <;> rcases j' with b' | i' | i' | i'
  all_goals first
    | exact absurd hs (show _ ≠ _ from by dsimp only [tokOf]; decide)
    | (have := congrArg Prod.snd hr; dsimp only [tokOf] at this; rw [this])
    | (have := congrArg Prod.fst hr; dsimp only [tokOf] at this; rw [Fin.ext this])
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The payments due at device `c`'s own cells. -/
def toks (c : Dev nD) : sProp 𝕄 :=
  iprop((dutyTok ER (barCell c) 0 false ∗ dutyTok ER (barCell c) 0 true)
    ∗ (bigSep (Finset.Ico 0 30) fun i => dutyTok ER (recvCell c) i false) ∗ (bigSep (Finset.Ico 0 30) fun i => dutyTok ER (sendCell c) i false)
    ∗ (bigSep (Finset.Ico 0 29) fun i => dutyTok ER (credCell c) i false))

theorem bigSep_upto (n : ℕ) (Φ : ℕ → sProp 𝕄) : bigSep (Finset.univ : Finset (Fin n)) (fun i => Φ i.val) = bigSep (Finset.Ico 0 n) Φ := by
  have h : Finset.Ico 0 n = (Finset.univ : Finset (Fin n)).map Fin.valEmbedding := by
    rw [Fin.map_valEmbedding_univ]; ext i; simp
  rw [h, bigSep_map]; rfl

theorem toks_eq (c : Dev nD) : bigSep Finset.univ (fun j : Due => (dutyTok ER (tokOf (c, j)).1 (tokOf (c, j)).2.1 (tokOf (c, j)).2.2 : sProp 𝕄)) = toks c := by
  rw [bigSep_univ_sum, bigSep_univ_sum, bigSep_univ_sum]
  unfold toks
  rw [← bigSep_upto, ← bigSep_upto, ← bigSep_upto, bigSep_univ_eq_bigSepL [false, true] (by decide) (by decide)]
  rfl

def G (c : Dev nD) : sProp 𝕄 :=
  iprop((bigSep Finset.univ fun k : Fin 4 => roundState ER (ringRd m ρ) (kcell (c, k)) 0)
    ∗ (bigSep Finset.univ fun k : Fin 4 => iprop(atPos ER (kcell (c, k)) 0 ∅ 0 ∗ reached ER (kcell (c, k)) 0)) ∗ toks c)

/-- What every device has once the invariants stand, the levels not yet. -/
def invs' (K : Dev nD × Fin 4 → ℕ) (c : Dev nD) : sProp 𝕄 :=
  iprop(cellInv ER (ringRd m ρ) (K (c, 0)) (barCell c) ∗ cellInv ER (ringRd m ρ) (K (c, 1)) (sendCell c) ∗ cellInv ER (ringRd m ρ) (K (c, 2)) (recvCell c)
    ∗ cellInv ER (ringRd m ρ) (K (c, 3)) (credCell c)
    ∗ cellInv ER (ringRd m ρ) (K (nxt c, 0)) (barCell (nxt c)) ∗ cellInv ER (ringRd m ρ) (K (prv c, 0)) (barCell (prv c))
    ∗ cellInv ER (ringRd m ρ) (K (nxt c, 2)) (recvCell (nxt c)) ∗ cellInv ER (ringRd m ρ) (K (prv c, 3)) (credCell (prv c)))

/-- The payments device `c` makes. -/
def payToks (c : Dev nD) : sProp 𝕄 :=
  iprop(dutyTok ER (barCell (nxt c)) 0 false ∗ dutyTok ER (barCell (prv c)) 0 true ∗ payRecv c 0 ∗ paySend c 0 ∗ payCred c 0)
def places (c : Dev nD) : sProp 𝕄 :=
  iprop(atPos ER (barCell c) 0 ∅ 0 ∗ atPos ER (sendCell c) 0 ∅ 0 ∗ atPos ER (recvCell c) 0 ∅ 0 ∗ atPos ER (credCell c) 0 ∅ 0)
def marks (c : Dev nD) : sProp 𝕄 :=
  iprop(reached ER (barCell (nxt c)) 0 ∗ reached ER (barCell (prv c)) 0 ∗ reached ER (sendCell c) 0 ∗ reached ER (recvCell c) 0 ∗ reached ER (credCell c) 0)

def G' (c : Dev nD) : sProp 𝕄 := iprop(∃ K, invs' m ρ K c ∗ places c ∗ marks c ∗ payToks c)

theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 4 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = iprop(semVal (sendCell c) 0 ∗ semVal (recvCell c) 0 ∗ semVal (credCell c) 0) := by
  rw [Pipeline.ownSems0_eq_of_list c osem [0, 1, 2] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HC⟩, HB⟩
  isplitl [HB]; · iexact HB
  isplitl [HS]; · iexact HS
  isplitl [HV] <;> iassumption

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (ringRd m ρ) (K ck) (kcell ck))
    ∗ bigSep Finset.univ fun ck : Dev nD × Fin 4 => reached ER (kcell ck) 0)

instance records_persistent (K : Dev nD × Fin 4 → ℕ) : BI.Persistent (records (F := F) m ρ K) := by unfold records; infer_instance

theorem inv_at (K : Dev nD × Fin 4 → ℕ) (ck : Dev nD × Fin 4) :
    (bigSep Finset.univ fun ck : Dev nD × Fin 4 => (cellInv ER (ringRd m ρ) (K ck) (kcell ck) : sProp 𝕄)) ⊢ cellInv ER (ringRd m ρ) (K ck) (kcell ck) :=
  bigSep_elim (Finset.mem_univ ck)
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

theorem ghost_intro (K : Dev nD × Fin 4 → ℕ) (c : Dev nD) : iprop(records m ρ K ∗ places c ∗ payToks c) ⊢ G' m ρ c := by
  unfold records G' invs' marks
  iintro ⟨⟨#HI, #HR⟩, Hp, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (nxt c, 0)); iexact HI
    isplitr; · iapply (inv_at m ρ K (prv c, 0)); iexact HI
    isplitr; · iapply (inv_at m ρ K (nxt c, 2)); iexact HI
    iapply (inv_at m ρ K (prv c, 3)); iexact HI
  isplitl [Hp]; · iexact Hp
  isplitr
  · isplitr; · iapply (reached_at (F := F) (nxt c, 0)); iexact HR
    isplitr; · iapply (reached_at (F := F) (prv c, 0)); iexact HR
    isplitr; · iapply (reached_at (F := F) (c, 1)); iexact HR
    isplitr; · iapply (reached_at (F := F) (c, 2)); iexact HR
    iapply (reached_at (F := F) (c, 3)); iexact HR
  iexact Ht

/-- The payments dealt round the ring: those at receive cells and the barrier's `false` to the device before, those at credit
    cells and the barrier's `true` to the next. -/
theorem toks_around : (bigSep Finset.univ fun c : Dev nD => (toks c : sProp 𝕄)) ⊢ bigSep Finset.univ fun c : Dev nD => payToks c := by
  unfold toks payToks payRecv paySend payCred
  simp only [bigSep_sep']
  rw [bigSep_univ_equiv around (fun c : Dev nD => (dutyTok ER (barCell c) 0 false : sProp 𝕄)),
    bigSep_univ_equiv around.symm (fun c : Dev nD => (dutyTok ER (barCell c) 0 true : sProp 𝕄)),
    bigSep_univ_equiv around (fun c : Dev nD => (bigSep (Finset.Ico 0 30) fun i => dutyTok ER (recvCell c) i false : sProp 𝕄)),
    bigSep_univ_equiv around.symm (fun c : Dev nD => (bigSep (Finset.Ico 0 29) fun i => dutyTok ER (credCell c) i false : sProp 𝕄))]
  iintro ⟨⟨H1, H2⟩, H3, H4, H5⟩
  isplitl [H1]; · iexact H1
  isplitl [H2]; · iexact H2
  isplitl [H3]; · iexact H3
  isplitl [H4]; · iexact H4
  iexact H5

theorem deal_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 4 => iprop(∃ κ : ℕ, cellInv ER (ringRd m ρ) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (ringRd m ρ) κ (kcell ck) : sProp 𝕄))) $$ HI
  icases HK with ⟨%K, #HI⟩
  ihave Htk := (toks_around (F := F)) $$ Htok
  iapply (deal_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ iprop(places c ∗ payToks c) from Entails.of_eq (by unfold places; rw [bigSep_fin4])))
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What is owed to device `c`'s cells. -/
def due (c : Dev nD) : CellTallies nD τ sig ℕ :=
  (∑ i ∈ Finset.Ico 0 30, tallyAt (recvCell c) i N) + (∑ i ∈ Finset.Ico 0 29, tallyAt (credCell c) i 1) + tallyAt (barCell c) 0 1 + tallyAt (barCell c) 0 1

theorem owed_eq_due : (∑ d, O₀ d) = ∑ d, due d := by
  unfold O₀ O₁ owed owedRecv owedCred due
  simp only [Finset.sum_add_distrib]
  rw [← Equiv.sum_comp around (fun c => ∑ i ∈ Finset.Ico 0 30, (tallyAt (recvCell c) i N : CellTallies nD τ sig ℕ)),
    ← Equiv.sum_comp around.symm (fun c => ∑ i ∈ Finset.Ico 0 29, (tallyAt (credCell c) i 1 : CellTallies nD τ sig ℕ))]
  have h1 : (∑ d : Dev nD, (tallyAt (barCell (nxt d)) 0 1 : CellTallies nD τ sig ℕ)) = ∑ d, tallyAt (barCell d) 0 1 :=
    Equiv.sum_comp around (fun c => (tallyAt (barCell c) 0 1 : CellTallies nD τ sig ℕ))
  have h2 : (∑ d : Dev nD, (tallyAt (barCell (prv d)) 0 1 : CellTallies nD τ sig ℕ)) = ∑ d, tallyAt (barCell d) 0 1 :=
    Equiv.sum_comp around.symm (fun c => (tallyAt (barCell c) 0 1 : CellTallies nD τ sig ℕ))
  rw [h1, h2]
  rfl

theorem due_own (d : Dev nD) (g : GSem nD τ sig) (h : due d g ≠ 0) : g.1 = (d.tc : Thread nD τ) := by
  obtain ⟨u, hu⟩ := Finsupp.ne_iff.mp h
  by_contra hg
  refine hu ?_
  have hb : ∀ sm, g ≠ ((d : Thread nD τ), sm) := fun sm e => hg (by rw [e])
  have hs : ∀ (s : Finset ℕ) (sm : SemLoc sig) (n : ℕ), (∑ i ∈ s, (tallyAt ((d : Thread nD τ), sm) i n : CellTallies nD τ sig ℕ)) g = 0 := fun s sm n => by
    rw [Finset.sum_apply]; exact Finset.sum_eq_zero fun i _ => tallyAt_ne_cell (hb sm) i n
  unfold due
  rw [Pi.add_apply, Pi.add_apply, Pi.add_apply, hs, hs, tallyAt_ne_cell (hb (.reg barS)) 0 1]
  rfl

theorem creds (c : Dev nD) : (Pipeline.launchCred O₀ c : sProp 𝕄) ⊢ credits c := by
  rw [Pipeline.launchCred_of_sum O₀ due owed_eq_due due_own c]
  unfold due credits crRecv crCred
  rw [add_assoc, tallyAt_add, ← Pipeline.cred_finsetSum, ← Pipeline.cred_finsetSum]
  iintro H
  ihave H := (cred_add _ _).1 $$ H
  icases H with ⟨H, HB⟩
  ihave H := (cred_add _ _).1 $$ H
  icases H with ⟨HR, HC⟩
  isplitl [HB]; · iexact HB
  isplitl [HR]; · iexact HR
  iexact HC

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' ghost invs invs' places marks payToks
  iintro ⟨-, #Hlev, Hcr, -, ⟨%K, ⟨#H1, #H2, #H3, #H4, #H5, #H6, #H7, #H8⟩, Hp, Hm, Ht⟩⟩
  ihave Hc := (creds (F := F) c) $$ Hcr
  imodintro
  isplitl
  · isplitr [Hc]
    · iexists K
      isplitr
      · isplitr; · iexact H1
        isplitr; · iexact H2
        isplitr; · iexact H3
        isplitr; · iexact H4
        isplitr; · iexact H5
        isplitr; · iexact H6
        isplitr; · iexact H7
        isplitr; · iexact H8
        iexact Hlev
      isplitl [Hp]; · iexact Hp
      isplitl [Hm]; · iexact Hm
      iexact Ht
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch wPts inPts
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch wPts inPts
  iintro ⟨Hr, HzS, HzV, HzC, HzB⟩
  isplitl [HzB]; · iexact HzB
  isplitl [HzS HzV HzC]
  · isplitl [HzS]; · iexact HzS
    isplitl [HzV] <;> iassumption
  iexact Hr

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, the sixteen devices' run terminates with every array at the
    contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array holds at the end what it held. -/
theorem finalA_in (c : Dev nD) (w : Fin 5) (hw : w.val < 4) : finalA m ρ c w = (s₀ m ρ).mem ((cfg0.win w).arr.view.loc (c : Thread nD τ)) :=
  (dats (F := F) m ρ 0 c).arrAt_in w (by revert w; decide) _

/-- So the frame claim, at any float values. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c 0).trans (finalA_in m ρ c 0 (by decide)), (h.1 c 1).trans (finalA_in m ρ c 1 (by decide)),
    (h.1 c 2).trans (finalA_in m ρ c 2 (by decide)), (h.1 c 3).trans (finalA_in m ρ c 3 (by decide))⟩, h.2⟩) (run_main m ρ)

end Cert.Moe

end
-- ==== Proof.Value.lean ====
/-
# The kernel's values over the extended reals

Each pure part of the body read at one index, then the gate and the output as formulas in the staged arguments.
-/
module

public import proofs.«01_k».proof.Proof.Launch
public import proofs.«01_k».proof.Defs
public import Idealize.ShloMosaic.Lib.Pointwise

@[expose] public section

noncomputable section

namespace Cert.Moe

open Cert.KernelIdeal Cert.KernelIdeal.Gen
open Idealize.ShloMosaic
open Idealize.SL.Sem

set_option maxRecDepth 16384

/-! ## The formulas -/

/-- The sum of `f` over the places whose number is the word `e`. -/
def pick (e : BitVec 32) (f : Fin 128 → EReal) : EReal := ∑ k : Fin 128, if BitVec.ofNat 32 k.val = e then f k else 0

/-- A token's score at a place. -/
def score (X : S2048x512.Idx → EReal) (R : S512x128.Idx → EReal) (n : Fin 2048) (k : Fin 128) : EReal :=
  ∑ q : Fin 512, X (ix2 n q) * R (ix2 q k)

/-- The first weight of the softmax of a pair. -/
def half (s0 s1 : EReal) : EReal :=
  Ideal.div (Ideal.exp (s0 - max s0 s1)) (Ideal.exp (s0 - max s0 s1) + Ideal.exp (s1 - max s0 s1))

/-- One entry of the gate, from the pair's weight. -/
def spread (w : EReal) (e0 e1 : BitVec 32) (k : Fin 128) : EReal :=
  w * (if BitVec.ofNat 32 k.val = e0 then 1 else 0) + (1 - w) * (if BitVec.ofNat 32 k.val = e1 then 1 else 0)

/-- The gate of a token. -/
def gateF (X : S2048x512.Idx → EReal) (R : S512x128.Idx → EReal) (I : S2048x2.Idx → BitVec 32) (n : Fin 2048) (k : Fin 128) : EReal :=
  spread (half (pick (I (ix2 n 0)) (score X R n)) (pick (I (ix2 n 1)) (score X R n))) (I (ix2 n 0)) (I (ix2 n 1)) k

/-! ## The pure parts at an index -/

theorem select_eq_word {α : Type} (a b : BitVec 32) (x y : α) : Scalar.select (IntOp.cmpi .eq a b) x y = if a = b then x else y := by
  by_cases h : a = b
  · subst h; simp [IntOp.cmpi, Scalar.select]
  · have e : IntOp.cmpi .eq a b = 0#1 := by
      show BitVec.ofBool (a == b) = 0#1
      rw [beq_eq_false_iff_ne.mpr h]; rfl
    rw [e, if_neg h]; rfl

theorem hit_float (a b : BitVec 32) :
    FloatOps.sitofp (F := Ideal) FTy.f32 (BitVec.setWidth 32 (IntOp.cmpi .eq a b)) = if a = b then (1 : EReal) else 0 := by
  by_cases h : a = b
  · subst h
    have e : IntOp.cmpi .eq a a = 1#1 := by simp [IntOp.cmpi]
    rw [e, if_pos rfl]
    show (((BitVec.setWidth 32 1#1).toInt : ℝ) : EReal) = 1
    norm_num
  · have e : IntOp.cmpi .eq a b = 0#1 := by
      show BitVec.ofBool (a == b) = 0#1
      rw [beq_eq_false_iff_ne.mpr h]; rfl
    rw [e, if_neg h]
    show (((BitVec.setWidth 32 0#1).toInt : ℝ) : EReal) = 0
    norm_num

theorem scoreAt_apply (xt : Vec Ideal S256x512 .f32) (rw : Vec Ideal S512x128 .f32) (it : Vec Ideal S256x1 .i32) (a : Fin 256) :
    scoreAt (scores xt rw) it (ix2 a 0) = pick (it (ix2 a 0)) (fun k => ∑ q : Fin 512, xt (ix2 a q) * rw (ix2 q k)) := by
  pointwise [scoreAt, scores, hit]
  simp only [select_eq_word]
  rfl

theorem gateVal_apply (xt : Vec Ideal S256x512 .f32) (rw : Vec Ideal S512x128 .f32) (i0 i1 : Vec Ideal S256x1 .i32) (a : Fin 256) (k : Fin 128) :
    gateVal xt rw i0 i1 (ix2 a k)
      = spread (half (pick (i0 (ix2 a 0)) (fun k => ∑ q : Fin 512, xt (ix2 a q) * rw (ix2 q k)))
          (pick (i1 (ix2 a 0)) (fun k => ∑ q : Fin 512, xt (ix2 a q) * rw (ix2 q k)))) (i0 (ix2 a 0)) (i1 (ix2 a 0)) k := by
  rw [← scoreAt_apply xt rw i0 a, ← scoreAt_apply xt rw i1 a]
  unfold gateVal
  generalize scoreAt (scores xt rw) i0 = s0
  generalize scoreAt (scores xt rw) i1 = s1
  pointwise [wgt0, hit]
  rw [hit_float, hit_float]
  rfl

/-- The same where the tile's operands are known as parts of whole arrays. -/
theorem gateVal_row (xt : Vec Ideal S256x512 .f32) (rw : Vec Ideal S512x128 .f32) (i0 i1 : Vec Ideal S256x1 .i32)
    (X : S2048x512.Idx → EReal) (R : S512x128.Idx → EReal) (I : S2048x2.Idx → BitVec 32) (a : Fin 256) (n : Fin 2048) (k : Fin 128)
    (hx : ∀ q, xt (ix2 a q) = X (ix2 n q)) (hr : ∀ q k, rw (ix2 q k) = R (ix2 q k)) (h0 : i0 (ix2 a 0) = I (ix2 n 0)) (h1 : i1 (ix2 a 0) = I (ix2 n 1)) :
    gateVal xt rw i0 i1 (ix2 a k) = gateF X R I n k := by
  rw [gateVal_apply, h0, h1]
  simp only [hx, hr]
  rfl

/-- The number of the expert that a trip's word pair and `e` name. -/
abbrev expertW (rnd src e : BitVec 32) : BitVec 32 := Scalar.addi (Scalar.addi (Scalar.muli src 8#32) (Scalar.muli rnd 4#32)) e

theorem addExpert_apply (rnd src e : BitVec 32) (xb : Vec Ideal S256x512 .bf16) (gt : Vec Ideal S256x128 .f32) (acc : FVec Ideal S256x1024 .f32)
    (w : Vec Ideal S1x512x1024 .bf16) (a : Fin 256) (h : Fin 1024) :
    addExpert rnd src e xb gt acc w (ix2 a h)
      = acc (ix2 a h) + pick (expertW rnd src e) (fun k => gt (ix2 a k)) * ∑ q : Fin 512, xb (ix2 a q) * w (ix3 0 q h) := by
  pointwise [addExpert, gateCol]
  simp only [select_eq_word]
  rfl

theorem tileVal_apply (rnd src : BitVec 32) (xb : Vec Ideal S256x512 .bf16) (gt : Vec Ideal S256x128 .f32) (acc : Vec Ideal S256x1024 .f32)
    (w : Fin 4 → Vec Ideal S1x512x1024 .bf16) (a : Fin 256) (h : Fin 1024) :
    tileVal rnd src xb gt acc (w 0) (w 1) (w 2) (w 3) (ix2 a h)
      = acc (ix2 a h) + ∑ e : Fin 4, pick (expertW rnd src (BitVec.ofNat 32 e.val)) (fun k => gt (ix2 a k)) * ∑ q : Fin 512, xb (ix2 a q) * w e (ix3 0 q h) := by
  unfold tileVal
  rw [addExpert_apply, addExpert_apply, addExpert_apply, addExpert_apply, Fin.sum_univ_four, ← add_assoc, ← add_assoc, ← add_assoc]
  pointwise

/-! ## Loads of a band -/

abbrev band (i : Fin 8) (a : Fin 256) : Fin 2048 := ⟨256 * i.val + a.val, by have := i.isLt; have := a.isLt; omega⟩

theorem emb_row {w : ℕ} (i : Fin 8) (a : Fin 256) (k : Fin w) :
    (Rect.unit (s := (⟨2, ![2048, w]⟩ : Shape)) ![256 * i.val, 0] (⟨2, ![256, w]⟩ : Shape).size (row_inb i)).emb (ix2 a k) = ix2 (band i a) k := by
  funext x
  apply Fin.ext
  rw [Rect.emb_apply]
  fin_cases x
  · show 256 * i.val + 1 * a.val = 256 * i.val + a.val; omega
  · show 0 + 1 * k.val = k.val; omega

theorem load_x (i : Fin 8) (f : S2048x512.Idx → EReal) (a : Fin 256) (q : Fin 512) :
    (xM : Memref sig .tc .vmem S2048x512 .f32).view.readAt (Elt Ideal) (rowX i).toLoadRect f (ix2 a q) = f (ix2 (band i a) q) :=
  congrArg f (emb_row i a q)
theorem load_xb (i : Fin 8) (f : S2048x512.Idx → EReal) (a : Fin 256) (q : Fin 512) :
    (xbM : Memref sig .tc .vmem S2048x512 .bf16).view.readAt (Elt Ideal) (rowX i).toLoadRect f (ix2 a q) = f (ix2 (band i a) q) :=
  congrArg f (emb_row i a q)
theorem load_g (i : Fin 8) (f : S2048x128.Idx → EReal) (a : Fin 256) (k : Fin 128) :
    (gM : Memref sig .tc .vmem S2048x128 .f32).view.readAt (Elt Ideal) (rowG i).toLoadRect f (ix2 a k) = f (ix2 (band i a) k) :=
  congrArg f (emb_row i a k)
theorem load_o (i : Fin 8) (f : S2048x1024.Idx → EReal) (a : Fin 256) (h : Fin 1024) :
    (oM : Memref sig .tc .vmem S2048x1024 .f32).view.readAt (Elt Ideal) (rowO i).toLoadRect f (ix2 a h) = f (ix2 (band i a) h) :=
  congrArg f (emb_row i a h)

theorem load_r (f : S512x128.Idx → EReal) (q : Fin 512) (k : Fin 128) :
    (rwM : Memref sig .tc .vmem S512x128 .f32).view.readAt (Elt Ideal) allR.toLoadRect f (ix2 q k) = f (ix2 q k) := by
  refine congrArg f ?_
  show allR.emb (ix2 q k) = ix2 q k
  funext x
  apply Fin.ext
  rw [Rect.emb_apply]
  fin_cases x
  · show 0 + 1 * q.val = q.val; omega
  · show 0 + 1 * k.val = k.val; omega

theorem load_i (i : Fin 8) (j : Fin 2) (f : S2048x2.Idx → BitVec 32) (a : Fin 256) :
    (ixM : Memref sig .tc .vmem S2048x2 .i32).view.readAt (Elt Ideal) (colI i j).toLoadRect f (ix2 a 0) = f (ix2 (band i a) j) := by
  refine congrArg f ?_
  show (colI i j).emb (ix2 a 0) = ix2 (band i a) j
  funext x
  apply Fin.ext
  rw [Rect.emb_apply]
  fin_cases x
  · show 256 * i.val + 1 * a.val = 256 * i.val + a.val; omega
  · show j.val + 1 * 0 = j.val; omega

theorem load_w (e : Fin 4) (f : S4x512x1024.Idx → EReal) (q : Fin 512) (h : Fin 1024) :
    (wM : Memref sig .tc .vmem S4x512x1024 .bf16).view.readAt (Elt Ideal) (expW e).toLoadRect f (ix3 0 q h) = f (ix3 e q h) := by
  refine congrArg f ?_
  show (expW e).emb (ix3 0 q h) = ix3 e q h
  funext x
  apply Fin.ext
  rw [Rect.emb_apply]
  fin_cases x
  · show e.val + 1 * 0 = e.val; omega
  · show 0 + 1 * q.val = q.val; omega
  · show 0 + 1 * h.val = h.val; omega

/-- A row of an array of 2048 rows is a row of one of the eight bands. -/
theorem exists_band (n : Fin 2048) : ∃ (i : Fin 8) (a : Fin 256), n = band i a :=
  ⟨⟨n.val / 256, by have := n.isLt; omega⟩, ⟨n.val % 256, Nat.mod_lt _ (by decide)⟩, Fin.ext (by show n.val = 256 * (n.val / 256) + n.val % 256; omega)⟩

/-! ## The gate and a trip -/

theorem allGates_apply (X : S2048x512.Idx → EReal) (R : S512x128.Idx → EReal) (I : S2048x2.Idx → BitVec 32) (fg : S2048x128.Idx → EReal)
    (n : Fin 2048) (k : Fin 128) : allGates (F := Ideal) X R I fg (ix2 n k) = gateF X R I n k := by
  obtain ⟨i, a, rfl⟩ := exists_band n
  refine (congrArg (allGates (F := Ideal) X R I fg) (emb_row i a k).symm).trans ?_
  refine (allGates_at (F := Ideal) X R I fg i (ix2 a k)).trans ?_
  exact gateVal_row _ _ _ _ X R I a (band i a) k (fun q => load_x i X a q) (fun q k => load_r R q k) (load_i i 0 I a) (load_i i 1 I a)

theorem allTiles_apply (rnd src : BitVec 32) (X : S2048x512.Idx → EReal) (G : S2048x128.Idx → EReal) (W : S4x512x1024.Idx → EReal)
    (O : S2048x1024.Idx → EReal) (n : Fin 2048) (h : Fin 1024) :
    allTiles (F := Ideal) rnd src X G W O (ix2 n h)
      = O (ix2 n h) + ∑ e : Fin 4, pick (expertW rnd src (BitVec.ofNat 32 e.val)) (fun k => G (ix2 n k)) * ∑ q : Fin 512, X (ix2 n q) * W (ix3 e q h) := by
  obtain ⟨i, a, rfl⟩ := exists_band n
  refine (congrArg (allTiles (F := Ideal) rnd src X G W O) (emb_row i a h).symm).trans ?_
  refine (allTiles_at (F := Ideal) rnd src X G W O i (ix2 a h)).trans ?_
  refine (tileVal_apply rnd src _ _ _ (fun e => (wM : Memref sig .tc .vmem S4x512x1024 .bf16).view.readAt (Elt Ideal) (expW e).toLoadRect W) a h).trans ?_
  refine congrArg₂ (fun u v : EReal => u + v) (load_o i O a h) (Finset.sum_congr rfl fun e _ => ?_)
  exact congrArg₂ (fun u v : EReal => u * v) (congrArg (pick _) (funext fun k => load_g i G a k))
    (Finset.sum_congr rfl fun q _ => congrArg₂ (fun u v : EReal => u * v) (load_xb i X a q) (load_w e W q h))

end Cert.Moe

end
-- ==== Proof.Trips.lean ====
/-
# The output as a sum over all experts

The 32 trips of a device take four experts each, every expert once. So the output is, for each token and column, the sum
over all 128 experts of the gate's entry times the token's product with the expert's weights.
-/
module

public import proofs.«01_k».proof.Proof.Value

@[expose] public section

noncomputable section

namespace Cert.Moe

open Cert.KernelIdeal Cert.KernelIdeal.Gen
open Idealize.ShloMosaic Idealize.ShloMosaic.TcCoe
open Idealize.SL.Sem

set_option maxRecDepth 16384

variable (m : (ℓ : Loc nD τ sig) → Buf (Elt Ideal) ℓ) (ρ : Dev nD → PrngReg)

/-! ## The arguments of a device -/

abbrev argX (c : Dev nD) : S2048x512.Idx → EReal := m (c.tc.loc main_arg0)
abbrev argR (c : Dev nD) : S512x128.Idx → EReal := m (c.tc.loc main_arg1)
abbrev argI (c : Dev nD) : S2048x2.Idx → BitVec 32 := m (c.tc.loc main_arg2)
abbrev argE (c : Dev nD) : S8x512x1024.Idx → EReal := m (c.tc.loc main_arg3)

theorem xstg_eq (c : Dev nD) : xstg m ρ c = argX m c :=
  Memref.read_access_unit_zero (Elt Ideal) main_arg0 (show (fun a => (win0_0.index (0 : Fin 1)) a * main_arg0.ty.shape.size a) = fun _ => 0 from
    funext fun a => by fin_cases a <;> decide) (fun a => by fin_cases a <;> decide) _
theorem rwstg_eq (c : Dev nD) : rwstg m ρ c = argR m c :=
  Memref.read_access_unit_zero (Elt Ideal) main_arg1 (show (fun a => (win0_1.index (0 : Fin 1)) a * main_arg1.ty.shape.size a) = fun _ => 0 from
    funext fun a => by fin_cases a <;> decide) (fun a => by fin_cases a <;> decide) _
theorem ixstg_eq (c : Dev nD) : ixstg m ρ c = argI m c :=
  Memref.read_access_unit_zero (Elt Ideal) main_arg2 (show (fun a => (win0_2.index (0 : Fin 1)) a * main_arg2.ty.shape.size a) = fun _ => 0 from
    funext fun a => by fin_cases a <;> decide) (fun a => by fin_cases a <;> decide) _
theorem ewstg_eq (c : Dev nD) : ewstg m ρ c = argE m c :=
  Memref.read_access_unit_zero (Elt Ideal) main_arg3 (show (fun a => (win0_3.index (0 : Fin 1)) a * main_arg3.ty.shape.size a) = fun _ => 0 from
    funext fun a => by fin_cases a <;> decide) (fun a => by fin_cases a <;> decide) _

theorem xbVal_eq (X : S2048x512.Idx → EReal) : xbVal (F := Ideal) X = X := by
  funext j; show k0_pay1 (F := Ideal) X j = X j; pointwise [k0_pay1]

theorem chunk_apply (s : Dev nD) (r : ℕ) (e : Fin 4) (q : Fin 512) (h : Fin 1024) :
    chunk m ρ s r (ix3 e q h) = argE m s (ix3 ⟨4 * (r % 2) + e.val, by have := e.isLt; omega⟩ q h) := by
  unfold chunk
  rw [ewstg_eq]
  have hp : ∀ v : S4x512x1024.Idx → EReal, k0_pay4 (F := Ideal) v (ix3 e q h) = v (ix3 e q h) := by intro v; pointwise [k0_pay4]
  refine (hp _).trans (congrArg (argE m s) ?_)
  show (Rect.unit (s := S8x512x1024) ![4 * (r % 2), 0, 0] S4x512x1024.size (chunk_inb r)).emb (ix3 e q h) = _
  funext x
  apply Fin.ext
  rw [Rect.emb_apply]
  fin_cases x
  · show 4 * (r % 2) + 1 * e.val = 4 * (r % 2) + e.val; omega
  · show 0 + 1 * q.val = q.val; omega
  · show 0 + 1 * h.val = h.val; omega

/-! ## Which expert -/

/-- The expert of a trip's place `e`. -/
def expertN (c : Dev nD) (p : Fin 32 × Fin 4) : Fin 128 :=
  ⟨8 * (src c p.1.val).val + 4 * (p.1.val / 16) + p.2.val, by
    have := (src c p.1.val).isLt; have h1 := p.1.isLt; have h2 := p.2.isLt
    have : nD = 16 := rfl
    omega⟩

theorem rndN_eq (g : Fin 32) : rndN g.val = BitVec.ofNat 32 (g.val / 16) := by revert g; decide +kernel
theorem srcN_eq (c : Dev nD) (g : Fin 32) : srcN (meW c) g.val = BitVec.ofNat 32 (src c g.val).val := by revert c g; decide +kernel

theorem expertW_eq (c : Dev nD) (p : Fin 32 × Fin 4) :
    expertW (rndN p.1.val) (srcN (meW c) p.1.val) (BitVec.ofNat 32 p.2.val) = BitVec.ofNat 32 (expertN c p).val := by
  rw [rndN_eq, srcN_eq]
  show BitVec.ofNat 32 _ * 8#32 + BitVec.ofNat 32 _ * 4#32 + BitVec.ofNat 32 _ = BitVec.ofNat 32 (8 * (src c p.1.val).val + 4 * (p.1.val / 16) + p.2.val)
  rw [BitVec.ofNat_add, BitVec.ofNat_add, BitVec.ofNat_mul, BitVec.ofNat_mul, BitVec.mul_comm (8#32), BitVec.mul_comm (4#32)]

theorem expertN_injective (c : Dev nD) : Function.Injective (expertN c) := by
  rintro ⟨g, e⟩ ⟨g', e'⟩ h
  have h := congrArg Fin.val h
  have hc := c.isLt
  have hn : nD = 16 := rfl
  have hg := g.isLt; have hg' := g'.isLt; have he := e.isLt; have he' := e'.isLt
  have h : 8 * ((c.val + (16 - g.val % 16)) % 16) + 4 * (g.val / 16) + e.val = 8 * ((c.val + (16 - g'.val % 16)) % 16) + 4 * (g'.val / 16) + e'.val := h
  have hs : (c.val + (16 - g.val % 16)) % 16 = (c.val + (16 - g'.val % 16)) % 16 ∧ g.val / 16 = g'.val / 16 ∧ e.val = e'.val := by
    generalize (c.val + (16 - g.val % 16)) % 16 = s at *
    generalize (c.val + (16 - g'.val % 16)) % 16 = s' at *
    omega
  have hm : g.val % 16 = g'.val % 16 := by
    have h1 := hs.1
    have h2 : g.val % 16 < 16 := Nat.mod_lt _ (by decide)
    have h3 : g'.val % 16 < 16 := Nat.mod_lt _ (by decide)
    generalize g.val % 16 = u at *
    generalize g'.val % 16 = u' at *
    omega
  exact Prod.ext (Fin.ext (by show g.val = g'.val; omega)) (Fin.ext hs.2.2)

theorem expertN_bijective (c : Dev nD) : Function.Bijective (expertN c) :=
  (Fintype.bijective_iff_injective_and_card _).mpr ⟨expertN_injective c, by simp⟩

theorem ofNat_inj (j k : Fin 128) : BitVec.ofNat 32 j.val = BitVec.ofNat 32 k.val ↔ j = k := by
  refine ⟨fun h => Fin.ext ?_, fun h => h ▸ rfl⟩
  have h := congrArg BitVec.toNat h
  rw [BitVec.toNat_ofNat, BitVec.toNat_ofNat, Nat.mod_eq_of_lt (by have := j.isLt; omega), Nat.mod_eq_of_lt (by have := k.isLt; omega)] at h
  exact h

theorem pick_ofNat (j : Fin 128) (f : Fin 128 → EReal) : pick (BitVec.ofNat 32 j.val) f = f j := by
  unfold pick
  simp only [ofNat_inj]
  rw [Finset.sum_ite_eq' Finset.univ j f, if_pos (Finset.mem_univ _)]

/-! ## The sum -/

/-- Expert `E`'s weights, where they lie: device `E / 8`'s number `E % 8`. -/
def expertAt (E : Fin 128) (q : Fin 512) (h : Fin 1024) : EReal :=
  argE m ⟨E.val / 8, by show E.val / 8 < 16; have := E.isLt; omega⟩ (ix3 ⟨E.val % 8, by omega⟩ q h)

/-- A token's product with expert `E`'s weights, weighted by the gate. -/
def term (c : Dev nD) (n : Fin 2048) (h : Fin 1024) (E : Fin 128) : EReal :=
  gateF (argX m c) (argR m c) (argI m c) n E * ∑ q : Fin 512, argX m c (ix2 n q) * expertAt m E q h

theorem gateAt_apply (c : Dev nD) (n : Fin 2048) (k : Fin 128) : gateAt m ρ c (ix2 n k) = gateF (argX m c) (argR m c) (argI m c) n k := by
  unfold gateAt
  rw [xstg_eq, rwstg_eq, ixstg_eq]
  exact allGates_apply _ _ _ _ n k

theorem wAt_apply (c : Dev nD) (p : Fin 32 × Fin 4) (q : Fin 512) (h : Fin 1024) :
    wAt m ρ c p.1.val (ix3 p.2 q h) = expertAt m (expertN c p) q h := by
  unfold wAt
  rw [chunk_apply]
  have h1 := p.1.isLt; have h2 := p.2.isLt; have h3 := (src c p.1.val).isLt
  have hn : nD = 16 := rfl
  unfold expertAt
  have e1 : (⟨(expertN c p).val / 8, by show (expertN c p).val / 8 < 16; have := (expertN c p).isLt; omega⟩ : Dev nD) = src c p.1.val :=
    Fin.ext (by show (8 * (src c p.1.val).val + 4 * (p.1.val / 16) + p.2.val) / 8 = (src c p.1.val).val; omega)
  have e2 : (⟨(expertN c p).val % 8, by omega⟩ : Fin 8) = ⟨4 * (p.1.val / 16 % 2) + p.2.val, by omega⟩ :=
    Fin.ext (by show (8 * (src c p.1.val).val + 4 * (p.1.val / 16) + p.2.val) % 8 = 4 * (p.1.val / 16 % 2) + p.2.val; omega)
  rw [e1, e2]

/-- An entry of the output before trip `k`. -/
abbrev outN (c : Dev nD) (n : Fin 2048) (h : Fin 1024) (k : ℕ) : EReal := outs m ρ c k (ix2 n h)

theorem outs_succ (c : Dev nD) (g : Fin 32) (n : Fin 2048) (h : Fin 1024) :
    outN m ρ c n h (g.val + 1) = outN m ρ c n h g.val + ∑ e : Fin 4, term m c n h (expertN c (g, e)) := by
  refine (allTiles_apply _ _ _ _ _ _ n h).trans ?_
  refine congrArg (fun v : EReal => outN m ρ c n h g.val + v) (Finset.sum_congr rfl fun e _ => ?_)
  unfold term
  rw [expertW_eq c (g, e), pick_ofNat, gateAt_apply, xbVal_eq, xstg_eq]
  exact congrArg _ (Finset.sum_congr rfl fun q _ => congrArg _ (wAt_apply m ρ c (g, e) q h))

theorem outs_sum (c : Dev nD) (n : Fin 2048) (h : Fin 1024) : ∀ (k : ℕ) (hk : k ≤ 32),
    outN m ρ c n h k = ∑ g : Fin k, ∑ e : Fin 4, term m c n h (expertN c (Fin.castLE hk g, e))
  | 0, _ => by
    have e : outN m ρ c n h 0 = 0 := by show k0_pay65 (F := Ideal) (ix2 n h) = 0; pointwise [k0_pay65]
    rw [e]; rfl
  | k + 1, hk => by
    rw [Fin.sum_univ_castSucc]
    exact (outs_succ m ρ c ⟨k, hk⟩ n h).trans (congrArg (fun v : EReal => v + _) (outs_sum c n h k (by omega)))

/-- What a device's output holds at the end. -/
theorem outs_final (c : Dev nD) (n : Fin 2048) (h : Fin 1024) : outN m ρ c n h 32 = ∑ E : Fin 128, term m c n h E := by
  rw [outs_sum m ρ c n h 32 le_rfl, ← (expertN_bijective c).sum_comp (term m c n h), Fintype.sum_prod_type]
  rfl

end Cert.Moe

end
-- ==== Proof.Weights.lean ====
/-
# The two weightings agree

For real scores, the softmax of the pair of chosen scores is the pair of entries of the whole row's softmax, normalised.
Spread over the 128 experts and summed against any values, the pair of weights picks the two experts' values.
-/
module

public import proofs.«01_k».proof.Proof.Trips

@[expose] public section

noncomputable section

namespace Cert.Moe

open Idealize.ShloMosaic

/-- The first weight of the softmax of two reals. -/
def wgt (a b : ℝ) : ℝ := Real.exp a / (Real.exp a + Real.exp b)

theorem wgt_nonneg (a b : ℝ) : 0 ≤ wgt a b := by unfold wgt; positivity
theorem one_sub_wgt (a b : ℝ) : 1 - wgt a b = wgt b a := by
  have := Real.exp_pos a; have := Real.exp_pos b
  unfold wgt; field_simp; ring

/-- Subtracting the same from both leaves the weight. -/
theorem wgt_sub (a b t : ℝ) : wgt (a - t) (b - t) = wgt a b := by
  have := Real.exp_pos a; have := Real.exp_pos b; have := Real.exp_pos t
  unfold wgt; rw [Real.exp_sub, Real.exp_sub]; field_simp

theorem div_coe_coe (x y : ℝ) (hy : y ≠ 0) : Ideal.div (x : EReal) (y : EReal) = ((x / y : ℝ) : EReal) := by
  rw [Ideal.div_coe hy, ← EReal.coe_mul]; congr 1; ring

theorem half_coe (a b : ℝ) : half (a : EReal) (b : EReal) = (wgt a b : EReal) := by
  have hm : max (a : EReal) (b : EReal) = ((max a b : ℝ) : EReal) := (EReal.coe_strictMono.monotone.map_max).symm
  unfold half
  rw [hm, ← EReal.coe_sub, ← EReal.coe_sub, Ideal.exp_coe, Ideal.exp_coe, ← EReal.coe_add, div_coe_coe _ _ (by positivity)]
  exact congrArg _ (wgt_sub a b (max a b))

/-- The largest of finitely many reals, at least one, is a real. -/
theorem fold_max_coe {ι : Type} [DecidableEq ι] (s : ι → ℝ) (S : Finset ι) (hS : S.Nonempty) :
    ∃ M : ℝ, S.fold max (⊥ : EReal) (fun k => (s k : EReal)) = (M : EReal) := by
  induction S using Finset.induction_on with
  | empty => exact absurd hS Finset.not_nonempty_empty
  | insert a S ha ih =>
    rw [Finset.fold_insert ha]
    rcases S.eq_empty_or_nonempty with rfl | h
    · exact ⟨s a, by simp⟩
    · obtain ⟨M, hM⟩ := ih h
      exact ⟨max (s a) M, by rw [hM]; exact (EReal.coe_strictMono.monotone.map_max).symm⟩

theorem coe_sum {ι : Type} (S : Finset ι) (f : ι → ℝ) : (∑ j ∈ S, (f j : EReal)) = ((∑ j ∈ S, f j : ℝ) : EReal) :=
  (map_sum (⟨⟨((↑) : ℝ → EReal), EReal.coe_zero⟩, EReal.coe_add⟩ : ℝ →+ EReal) f S).symm

/-- Two entries of a row's softmax, normalised, are the softmax of the two scores. -/
theorem normalised (s : Fin 128 → ℝ) (M : ℝ) (e0 e1 : Fin 128) :
    Ideal.div (Ideal.div (Ideal.exp ((s e0 : EReal) - M)) (∑ j : Fin 128, Ideal.exp ((s j : EReal) - M)))
        (Ideal.div (Ideal.exp ((s e0 : EReal) - M)) (∑ j : Fin 128, Ideal.exp ((s j : EReal) - M))
          + Ideal.div (Ideal.exp ((s e1 : EReal) - M)) (∑ j : Fin 128, Ideal.exp ((s j : EReal) - M)))
      = (wgt (s e0) (s e1) : EReal) := by
  have hZ : 0 < ∑ j : Fin 128, Real.exp (s j - M) := Finset.sum_pos (fun _ _ => Real.exp_pos _) ⟨0, Finset.mem_univ _⟩
  have hsum : (∑ j : Fin 128, Ideal.exp ((s j : EReal) - M)) = ((∑ j : Fin 128, Real.exp (s j - M) : ℝ) : EReal) := by
    rw [← coe_sum]
    exact Finset.sum_congr rfl fun j _ => by rw [← EReal.coe_sub, Ideal.exp_coe]
  rw [hsum, ← EReal.coe_sub, ← EReal.coe_sub, Ideal.exp_coe, Ideal.exp_coe, div_coe_coe _ _ hZ.ne', div_coe_coe _ _ hZ.ne', ← EReal.coe_add,
    div_coe_coe _ _ (by positivity), ← wgt_sub (s e0) (s e1) M]
  generalize (∑ j : Fin 128, Real.exp (s j - M)) = Z at hZ
  have := Real.exp_pos (s e0 - M); have := Real.exp_pos (s e1 - M)
  refine congrArg _ ?_
  unfold wgt
  field_simp

/-- A pair of weights spread over the experts, against any values of theirs. -/
theorem sum_spread (a b : ℝ) (e0 e1 : Fin 128) (Y : Fin 128 → EReal) :
    ∑ E : Fin 128, spread (wgt a b) (BitVec.ofNat 32 e0.val) (BitVec.ofNat 32 e1.val) E * Y E
      = (wgt a b : EReal) * Y e0 + (wgt b a : EReal) * Y e1 := by
  have h1 : (1 : EReal) - (wgt a b : EReal) = (wgt b a : EReal) := by rw [← one_sub_wgt a b, EReal.coe_sub, EReal.coe_one]
  have ht : ∀ E : Fin 128, spread (wgt a b) (BitVec.ofNat 32 e0.val) (BitVec.ofNat 32 e1.val) E * Y E
      = (if E = e0 then (wgt a b : EReal) * Y E else 0) + (if E = e1 then (wgt b a : EReal) * Y E else 0) := fun E => by
    have p0 : (0 : EReal) ≤ (wgt a b : EReal) := EReal.coe_nonneg.mpr (wgt_nonneg a b)
    have p1 : (0 : EReal) ≤ (wgt b a : EReal) := EReal.coe_nonneg.mpr (wgt_nonneg b a)
    unfold spread
    rw [h1]
    simp only [ofNat_inj]
    rw [EReal.right_distrib_of_nonneg (mul_nonneg p0 (by split <;> simp)) (mul_nonneg p1 (by split <;> simp))]
    congr 1
    · split <;> simp
    · split <;> simp
  rw [Finset.sum_congr rfl fun E _ => ht E, Finset.sum_add_distrib, Finset.sum_ite_eq' Finset.univ e0, Finset.sum_ite_eq' Finset.univ e1,
    if_pos (Finset.mem_univ _), if_pos (Finset.mem_univ _)]

end Cert.Moe

end
-- ==== Proof.RefValue.lean ====
/-
# The reference's values over the extended reals

The reference's result at a row and a column, where the row's two expert numbers are in range: the two gathered softmax
entries, normalised, times the row's products with the two experts' weights.
-/
module

public import proofs.«01_k».proof.Defs
public import proofs.«01_k».proof.Proof.Gen.ReferenceIdeal.Read
public import Idealize.ShloMosaic.Lib.Pointwise
public import Idealize.ShloMosaic.Lib.StableHlo.Predicate

@[expose] public section

noncomputable section

namespace Cert.Moe.Ref

open Cert.ReferenceIdeal Cert.ReferenceIdeal.Gen Cert.ReferenceIdeal.Read
open Idealize.ShloMosaic

set_option maxRecDepth 16384

/-! ## The two gathers -/

/-- An entry of a matrix picked by a row and a column number. -/
theorem gather_entry (x : S32768x128.Idx → EReal) (idx : IVec S32768x2 32) (n : Fin 32768) (r : Fin 32768) (e : Fin 128)
    (hr : (idx (ix2 n 0)).toInt.toNat = r.val) (he : (idx (ix2 n 1)).toInt.toNat = e.val) :
    Host.gather gather_S32768x128_S32768x2_S32768_n_01_n_n_01_1_11 x idx (ix1 n) = x (ix2 r e) := by
  unfold Host.gather
  refine congrArg x (funext fun a => Fin.ext ?_)
  have hs : ∀ (a : Fin 2), (gather_S32768x128_S32768x2_S32768_n_01_n_n_01_1_11).start (ix1 n) idx a
      = min (idx (ix2 n a)).toInt.toNat (S32768x128.size a - 1) := fun a => by
    unfold GatherDims.start
    rw [dif_pos (show a ∈ gather_S32768x128_S32768x2_S32768_n_01_n_n_01_1_11.startIndexMap by revert a; decide)]
    have hi : (gather_S32768x128_S32768x2_S32768_n_01_n_n_01_1_11).siIdx (ix1 n)
        ⟨List.idxOf a gather_S32768x128_S32768x2_S32768_n_01_n_n_01_1_11.startIndexMap,
          List.idxOf_lt_length_iff.2 (by revert a; decide)⟩ = ix2 n a := by
      funext b
      match a, b with
      | ⟨0, _⟩, ⟨0, _⟩ => rfl
      | ⟨0, _⟩, ⟨1, _⟩ => rfl
      | ⟨1, _⟩, ⟨0, _⟩ => rfl
      | ⟨1, _⟩, ⟨1, _⟩ => rfl
    rw [hi]
    match a with
    | ⟨0, _⟩ => rfl
    | ⟨1, _⟩ => rfl
  show (gather_S32768x128_S32768x2_S32768_n_01_n_n_01_1_11).start (ix1 n) idx a
      + (gather_S32768x128_S32768x2_S32768_n_01_n_n_01_1_11).batchCoord (ix1 n) a
      + (gather_S32768x128_S32768x2_S32768_n_01_n_n_01_1_11).offCoord (ix1 n) a = _
  rw [GatherDims.batchCoord_eq_zero _ _ _ List.not_mem_nil, GatherDims.offCoord_eq_zero _ _ _ (by revert a; decide), hs]
  have h1 := r.isLt
  have h2 := e.isLt
  match a with
  | ⟨0, _⟩ => show min (idx (ix2 n 0)).toInt.toNat (32768 - 1) + 0 + 0 = r.val; omega
  | ⟨1, _⟩ => show min (idx (ix2 n 1)).toInt.toNat (128 - 1) + 0 + 0 = e.val; omega

/-- A slab of a box picked by its number. -/
theorem gather_slab (x : S128x512x1024.Idx → EReal) (idx : IVec S32768x1 32) (n : Fin 32768) (q : Fin 512) (h : Fin 1024) (e : Fin 128)
    (he : (idx (ix2 n 0)).toInt.toNat = e.val) :
    Host.gather gather_S128x512x1024_S32768x1_S32768x512x1024_12_0_n_n_0_1_15121024 x idx (ix3 n q h) = x (ix3 e q h) := by
  unfold Host.gather
  refine congrArg x (funext fun a => Fin.ext ?_)
  show (gather_S128x512x1024_S32768x1_S32768x512x1024_12_0_n_n_0_1_15121024).start (ix3 n q h) idx a
      + (gather_S128x512x1024_S32768x1_S32768x512x1024_12_0_n_n_0_1_15121024).batchCoord (ix3 n q h) a
      + (gather_S128x512x1024_S32768x1_S32768x512x1024_12_0_n_n_0_1_15121024).offCoord (ix3 n q h) a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (by decide)]
    unfold GatherDims.start
    rw [dif_pos (show (0 : Fin 3) ∈ gather_S128x512x1024_S32768x1_S32768x512x1024_12_0_n_n_0_1_15121024.startIndexMap by decide)]
    have hi : (gather_S128x512x1024_S32768x1_S32768x512x1024_12_0_n_n_0_1_15121024).siIdx (ix3 n q h)
        ⟨List.idxOf (0 : Fin 3) gather_S128x512x1024_S32768x1_S32768x512x1024_12_0_n_n_0_1_15121024.startIndexMap,
          List.idxOf_lt_length_iff.2 (by decide)⟩ = ix2 n 0 := by
      funext b
      match b with
      | ⟨0, _⟩ => rfl
      | ⟨1, _⟩ => rfl
    rw [hi]
    have h2 := e.isLt
    show min (idx (ix2 n 0)).toInt.toNat (128 - 1) + 0 + 0 = e.val; omega
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

/-! ## The stages -/

/-- A small number is not negative as a word, so it is kept where negative words are wrapped. -/
theorem wrap_small (k : ℕ) (hk : k < 2 ^ 31) (b : BitVec 32) :
    Scalar.select (IntOp.cmpi CmpIPredicate.slt (BitVec.ofNat 32 k) 0#32) b (BitVec.ofNat 32 k) = BitVec.ofNat 32 k := by
  have e : IntOp.cmpi CmpIPredicate.slt (BitVec.ofNat 32 k) 0#32 = 0#1 := by
    show BitVec.ofBool ((BitVec.ofNat 32 k).slt 0#32) = 0#1
    have : (BitVec.ofNat 32 k).slt 0#32 = false := by
      rw [BitVec.slt, StableHlo.Predicate.toInt_ofNat_small _ hk]
      simp
    rw [this]; rfl
  rw [e]; rfl

theorem toNat_small (k : ℕ) (hk : k < 2 ^ 31) : (BitVec.ofNat 32 k).toInt.toNat = k := by
  rw [StableHlo.Predicate.toInt_ofNat_small _ hk]; rfl

variable (X : S32768x512.Idx → EReal) (R : S512x128.Idx → EReal) (I : S32768x2.Idx → BitVec 32) (W : S128x512x1024.Idx → EReal)

/-- A row's score at an expert, the largest of the row, the row's softmax, the row's product with an expert's weights. -/
def score (n : Fin 32768) (k : Fin 128) : EReal := ∑ q : Fin 512, X (ix2 n q) * R (ix2 q k)
def top (n : Fin 32768) : EReal := Finset.univ.fold max (Ideal.ofBits FTy.f32 0xFF800000#32) (score X R n)
def prob (n : Fin 32768) (k : Fin 128) : EReal :=
  Ideal.div (Ideal.exp (score X R n k - top X R n)) (∑ j : Fin 128, Ideal.exp (score X R n j - top X R n))
def product (n : Fin 32768) (h : Fin 1024) (E : Fin 128) : EReal := ∑ q : Fin 512, X (ix2 n q) * W (ix3 E q h)

theorem v9_apply (n : Fin 32768) (k : Fin 128) : val_main_v9 (F := Ideal) X R (ix2 n k) = prob X R n k := by
  pointwise [val_main_v9, val_main_v8, val_main_v7, val_main_v6, val_main_v5, val_main_v4, val_main_v3, val_main_v2, val_main_v1, val_main_v0, val_main_cst, val_main_cst_0]
  rfl

section
variable (n : Fin 32768) (e0 e1 : Fin 128) (h0 : I (ix2 n 0) = BitVec.ofNat 32 e0.val) (h1 : I (ix2 n 1) = BitVec.ofNat 32 e1.val)
include h0

theorem v28_apply : val_main_v28 (F := Ideal) X R I (ix1 n) = prob X R n e0 := by
  refine (gather_entry _ _ n n e0 ?_ ?_).trans (v9_apply X R n e0)
  · have e : val_main_v27 (F := Ideal) I (ix2 n 0) = BitVec.ofNat 32 n.val := by
      pointwise [val_main_v27, val_main_v25, val_main_v19, val_main_v18, val_main_v17, val_main_v16, val_main_v15, val_main_v14, val_main_c, val_main_c_1]
      exact wrap_small _ (by have := n.isLt; omega) _
    rw [e]; exact toNat_small _ (by have := n.isLt; omega)
  · have e : val_main_v27 (F := Ideal) I (ix2 n 1) = BitVec.ofNat 32 e0.val := by
      pointwise [val_main_v27, val_main_v26, val_main_v24, val_main_v23, val_main_v22, val_main_v21, val_main_v20, val_main_v11, val_main_v10, val_main_c_2, val_main_c_3]
      rw [h0]; exact wrap_small _ (by have := e0.isLt; omega) _
    rw [e]; exact toNat_small _ (by have := e0.isLt; omega)

theorem v51_apply (h : Fin 1024) : val_main_v51 (F := Ideal) X I W (ix2 n h) = product X W n h e0 := by
  pointwise [val_main_v51]
  refine Finset.sum_congr rfl fun q _ => congrArg (fun v : EReal => X (ix2 n q) * v) (gather_slab W _ n q h e0 ?_)
  have e : val_main_v49 (F := Ideal) I (ix2 n 0) = BitVec.ofNat 32 e0.val := by
    pointwise [val_main_v49, val_main_v48, val_main_v47, val_main_v46, val_main_v45, val_main_v44, val_main_v11, val_main_v10, val_main_c_8, val_main_c_9]
    rw [h0]; exact wrap_small _ (by have := e0.isLt; omega) _
  rw [e]; exact toNat_small _ (by have := e0.isLt; omega)

omit h0
include h1

theorem v42_apply : val_main_v42 (F := Ideal) X R I (ix1 n) = prob X R n e1 := by
  refine (gather_entry _ _ n n e1 ?_ ?_).trans (v9_apply X R n e1)
  · have e : val_main_v41 (F := Ideal) I (ix2 n 0) = BitVec.ofNat 32 n.val := by
      pointwise [val_main_v41, val_main_v39, val_main_v33, val_main_v32, val_main_v31, val_main_v30, val_main_v29, val_main_v14, val_main_c_4, val_main_c_5]
      exact wrap_small _ (by have := n.isLt; omega) _
    rw [e]; exact toNat_small _ (by have := n.isLt; omega)
  · have e : val_main_v41 (F := Ideal) I (ix2 n 1) = BitVec.ofNat 32 e1.val := by
      pointwise [val_main_v41, val_main_v40, val_main_v38, val_main_v37, val_main_v36, val_main_v35, val_main_v34, val_main_v13, val_main_v12, val_main_c_6, val_main_c_7]
      rw [h1]; exact wrap_small _ (by have := e1.isLt; omega) _
    rw [e]; exact toNat_small _ (by have := e1.isLt; omega)

theorem v59_apply (h : Fin 1024) : val_main_v59 (F := Ideal) X I W (ix2 n h) = product X W n h e1 := by
  pointwise [val_main_v59]
  refine Finset.sum_congr rfl fun q _ => congrArg (fun v : EReal => X (ix2 n q) * v) (gather_slab W _ n q h e1 ?_)
  have e : val_main_v57 (F := Ideal) I (ix2 n 0) = BitVec.ofNat 32 e1.val := by
    pointwise [val_main_v57, val_main_v56, val_main_v55, val_main_v54, val_main_v53, val_main_v52, val_main_v13, val_main_v12, val_main_c_10, val_main_c_11]
    rw [h1]; exact wrap_small _ (by have := e1.isLt; omega) _
  rw [e]; exact toNat_small _ (by have := e1.isLt; omega)

include h0

/-- The reference's result at a row and a column. -/
theorem v68_apply (h : Fin 1024) :
    val_main_v68 (F := Ideal) X R I W (ix2 n h)
      = Ideal.div (prob X R n e0) (prob X R n e0 + prob X R n e1) * product X W n h e0
        + Ideal.div (prob X R n e1) (prob X R n e0 + prob X R n e1) * product X W n h e1 := by
  rw [← v28_apply X R I n e0 h0, ← v42_apply X R I n e1 h1, ← v51_apply X I W n e0 h0 h, ← v59_apply X I W n e1 h1 h]
  pointwise [val_main_v68, val_main_v67, val_main_v66, val_main_v65, val_main_v64, val_main_v63, val_main_v62, val_main_v61, val_main_v60, val_main_v43]

end

end Cert.Moe.Ref

end
-- ==== Proof.Equation.lean ====
/-
# The kernel's output is the device's block of the reference's

Under the precondition the scores are reals and the expert numbers in range. Device `c`'s rows are rows `2048 c …` of the
whole arrays, and its eight experts are the experts `8 c …`.
-/
module

public import proofs.«01_k».proof.Proof.Weights
public import proofs.«01_k».proof.Proof.RefValue
public import Idealize.ShloMosaic.Lib.ReduceAll
public import Idealize.ShloMosaic.Lib.Layout

@[expose] public section

noncomputable section

namespace Cert.Moe

open Cert.KernelIdeal Cert.KernelIdeal.Gen
open Idealize.ShloMosaic Idealize.ShloMosaic.TcCoe
open Idealize.SL.Sem

set_option maxRecDepth 16384

/-! ## The precondition, read -/

theorem real_of_abs (a : EReal) (h : FloatOps.cmpf (F := Ideal) (φ := FTy.f32) CmpFPredicate.olt (max a (-a)) (Ideal.ofBits FTy.f32 0x7F800000#32) = 1#1) :
    ∃ r : ℝ, a = (r : EReal) := by
  have htop : Ideal.ofBits .f32 0x7F800000#32 = ⊤ := by simp [Ideal.ofBits, Ideal.ieee]
  rw [htop] at h
  have h : max a (-a) < ⊤ := by
    by_contra hn
    have e : FloatOps.cmpf (F := Ideal) (φ := FTy.f32) CmpFPredicate.olt (max a (-a)) ⊤ = BitVec.ofBool (decide (max a (-a) < ⊤)) := rfl
    rw [e, decide_eq_false hn] at h
    exact absurd h (by decide)
  induction a with
  | bot => simp at h
  | top => simp at h
  | coe r => exact ⟨r, rfl⟩

theorem word_of_range (w : BitVec 32) (h0 : IntOp.cmpi .sge w 0#32 = 1#1) (h1 : IntOp.cmpi .slt w 128#32 = 1#1) :
    ∃ e : Fin 128, w = BitVec.ofNat 32 e.val := by
  have h0 := IntOp.cmpi_sge.1 h0
  have h1 := IntOp.cmpi_slt.1 h1
  have hw : w.toNat < 128 := by
    have e0 : (0#32).toInt = 0 := rfl
    have e1 : (128#32).toInt = 128 := rfl
    rw [e0] at h0; rw [e1] at h1
    rw [BitVec.toInt_eq_toNat_cond] at h0 h1
    have := w.isLt
    split at h0 <;> split at h1 <;> omega
  exact ⟨⟨w.toNat, hw⟩, by simp⟩

section Pre
variable [Cert.Pre_finite_and_in_range_KernelIdeal.Facts] (X : FVec Ideal S2048x512 .f32) (R : FVec Ideal S512x128 .f32) (I : IVec S2048x2 32) (E : FVec Ideal S8x512x1024 .f32)
  (hp : Cert.Pre_finite_and_in_range_KernelIdeal.fn (F := Ideal) X R I E = fun _ => 1#1)
include hp

theorem pre_parts : (∀ i, ∃ r : ℝ, X i = (r : EReal)) ∧ (∀ i, ∃ r : ℝ, R i = (r : EReal)) ∧ ∀ i, ∃ e : Fin 128, I i = BitVec.ofNat 32 e.val := by
  have h := congrFun hp (fun a : Fin 0 => a.elim0)
  obtain ⟨h12, h3⟩ := IntOp.andi_eq_one.1 h
  obtain ⟨h1, h2⟩ := IntOp.andi_eq_one.1 h12
  haveI : Subsingleton (⟨0, ![]⟩ : Shape).Idx := ⟨fun a b => funext fun x => x.elim0⟩
  refine ⟨fun i => real_of_abs _ (Host.reduce_andi_all _ _ _ _ _ h1 i), fun i => real_of_abs _ (Host.reduce_andi_all _ _ _ _ _ h2 i), fun i => ?_⟩
  obtain ⟨a, b⟩ := IntOp.andi_eq_one.1 (Host.reduce_andi_all _ _ _ _ _ h3 i)
  exact word_of_range _ a b
end Pre

/-- Sums of products of reals are real. -/
theorem real_scores (X : S2048x512.Idx → EReal) (R : S512x128.Idx → EReal) (hX : ∀ i, ∃ r : ℝ, X i = (r : EReal)) (hR : ∀ i, ∃ r : ℝ, R i = (r : EReal))
    (n : Fin 2048) : ∃ s : Fin 128 → ℝ, score X R n = fun k => (s k : EReal) := by
  choose x hx using hX
  choose r hr using hR
  refine ⟨fun k => ∑ q : Fin 512, x (ix2 n q) * r (ix2 q k), funext fun k => ?_⟩
  unfold score
  rw [← coe_sum]
  exact Finset.sum_congr rfl fun q _ => by rw [hx, hr, EReal.coe_mul]

/-! ## The blocks -/

abbrev rowOf (c : Dev nD) (n : Fin 2048) : Fin 32768 := ⟨2048 * c.val + n.val, by have h := c.isLt; have : nD = 16 := rfl; have := n.isLt; omega⟩

theorem idx_row {w : ℕ} (h : Layout.Tiles ⟨2, ![2048, w]⟩ ⟨2, ![32768, w]⟩ 0 16) (c : Fin 16) (n : Fin 2048) (k : Fin w) :
    h.idx c (ix2 n k) = ix2 (rowOf c n) k := by
  funext b
  apply Fin.ext
  rw [Layout.Tiles.idx_val]
  fin_cases b
  · show c.val * 2048 + n.val = 2048 * c.val + n.val; omega
  · rfl

theorem idx_slab (h : Layout.Tiles ⟨3, ![8, 512, 1024]⟩ ⟨3, ![128, 512, 1024]⟩ 0 16) (c : Fin 16) (j : Fin 8) (q : Fin 512) (l : Fin 1024) :
    h.idx c (ix3 j q l) = ix3 ⟨8 * c.val + j.val, by have := c.isLt; have := j.isLt; omega⟩ q l := by
  funext b
  apply Fin.ext
  rw [Layout.Tiles.idx_val]
  fin_cases b
  · show c.val * 8 + j.val = 8 * c.val + j.val; omega
  · rfl
  · rfl

/-! ## The equation -/

section
variable (m : (ℓ : Loc nD τ sig) → Buf (Elt Ideal) ℓ) (ρ : Dev nD → PrngReg)
  (X : Cert.ReferenceIdeal.S32768x512.Idx → EReal) (R : S512x128.Idx → EReal) (I : Cert.ReferenceIdeal.S32768x2.Idx → BitVec 32)
  (W : Cert.ReferenceIdeal.S128x512x1024.Idx → EReal)

theorem equation (c : Dev nD)
    (hX : ∀ n q, argX m c (ix2 n q) = X (ix2 (rowOf c n) q)) (hR : argR m c = R) (hI : ∀ n j, argI m c (ix2 n j) = I (ix2 (rowOf c n) j))
    (hE : ∀ E q h, expertAt m E q h = W (ix3 E q h))
    (pX : ∀ i, ∃ r : ℝ, argX m c i = (r : EReal)) (pR : ∀ i, ∃ r : ℝ, argR m c i = (r : EReal)) (pI : ∀ i, ∃ e : Fin 128, argI m c i = BitVec.ofNat 32 e.val)
    (n : Fin 2048) (h : Fin 1024) :
    outN m ρ c n h 32 = Cert.ReferenceIdeal.Read.val_main_v68 (F := Ideal) X R I W (ix2 (rowOf c n) h) := by
  obtain ⟨e0, he0⟩ := pI (ix2 n 0)
  obtain ⟨e1, he1⟩ := pI (ix2 n 1)
  obtain ⟨s, hs⟩ := real_scores (argX m c) (argR m c) pX pR n
  have hs' : Ref.score X R (rowOf c n) = fun k => (s k : EReal) := by
    rw [← hs]
    funext k
    unfold score Ref.score
    rw [← hR]
    exact Finset.sum_congr rfl fun q _ => by rw [hX]
  obtain ⟨M, hM⟩ := fold_max_coe s Finset.univ ⟨0, Finset.mem_univ _⟩
  have hbot : Ideal.ofBits .f32 0xFF800000#32 = ⊥ := by simp [Ideal.ofBits, Ideal.ieee]
  have hp : ∀ k, Ref.prob X R (rowOf c n) k = Ideal.div (Ideal.exp ((s k : EReal) - M)) (∑ j : Fin 128, Ideal.exp ((s j : EReal) - M)) := fun k => by
    unfold Ref.prob Ref.top
    rw [hs', hbot, hM]
  have hY : ∀ E, (∑ q : Fin 512, argX m c (ix2 n q) * expertAt m E q h) = Ref.product X W (rowOf c n) h E := fun E =>
    Finset.sum_congr rfl fun q _ => by rw [hX, hE]
  rw [outs_final, Ref.v68_apply X R I W (rowOf c n) e0 e1 (by rw [← hI, he0]) (by rw [← hI, he1]) h, hp, hp, normalised]
  rw [add_comm (Ideal.div (Ideal.exp ((s e0 : EReal) - M)) _) (Ideal.div (Ideal.exp ((s e1 : EReal) - M)) _), normalised, ← sum_spread]
  refine Finset.sum_congr rfl fun E _ => ?_
  unfold term gateF
  rw [hY, he0, he1, hs, pick_ofNat, pick_ofNat, half_coe]
end

/-- The output array at the end: its one block is the whole array. -/
theorem finalA_out (m : (ℓ : Loc nD τ sig) → Buf (Elt Ideal) ℓ) (ρ : Dev nD → PrngReg) (c : Dev nD) : finalA m ρ c 4 = outs m ρ c 32 := by
  have hr : (win0_4.blk (0 : Fin 1)).view.read (Elt Ideal) (finalA m ρ c (4 : Fin 5)) = outs m ρ c 32 := by
    unfold finalA
    rw [show cfg0.N = ((0 : Fin 1) : Fin cfg0.N).val + 1 from rfl, (dats m ρ 0 c).arrAt_succ (4 : Fin 5) (0 : Fin 1),
      show (cfg0.win (4 : Fin 5)).flush (0 : Fin 1) = true from by decide, if_pos rfl]
    exact View.read_write_univ _ _
  exact (Memref.read_access_unit_zero (Elt Ideal) main_v1 (show (fun a => (win0_4.index (0 : Fin 1)) a * main_v1.ty.shape.size a) = fun _ => 0 from
    funext fun a => by fin_cases a <;> decide) (fun a => by fin_cases a <;> decide) _).symm.trans hr

end Cert.Moe

end
-- ==== Proof.lean ====
/-
# The claims

The kernel's two frames are one run, over any float values. The reference runs on the host alone. The value claim joins the
kernel's output, a sum over all experts, with the reference's row by row.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_in_range_KernelIdeal
public import proofs.«01_k».proof.Proof.Gen.Pre_finite_and_in_range_ReferenceIdeal
public import proofs.«01_k».proof.Proof.Launch
public import proofs.«01_k».proof.Proof.Equation

@[expose] public section

noncomputable section

namespace Cert.Proof

open Idealize.ShloMosaic Idealize.SL.Sem

/-- The two programs have the same kernel function. -/
theorem defs₀_eq : Cert.Kernel.defs₀ (F := Bits) = Cert.KernelIdeal.defs₀ := by
  unfold Cert.Kernel.defs₀ Cert.KernelIdeal.defs₀
  refine congrArg Defs.onTc (funext fun l => funext fun a => ?_)
  obtain ⟨_ | l, hl⟩ := l
  · rfl
  · exact absurd hl (Nat.not_lt.2 (Nat.le_add_left _ _))

theorem defs_eq : Cert.Kernel.defs (F := Bits) = Cert.KernelIdeal.defs := congrArg (Pipeline.defs _) defs₀_eq

theorem frame_kernel : Cert.quiescent_Kernel := fun m ρ _ => by
  rw [defs_eq]
  exact Cert.Moe.run_frame (F := Bits) m ρ

theorem frame_kernelIdeal : Cert.quiescent_KernelIdeal := fun m ρ _ => Cert.Moe.run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's output is its block of the reference's result. -/
theorem value : Cert.algebraic_KernelIdeal_ReferenceIdeal_pre_finite_and_in_range_KernelIdeal := by
  intro m ρ m' ρ' hpre hargs
  refine ⟨Cert.ReferenceIdeal.Value.res_main_v68 m' 0, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c 4).trans ((Cert.Moe.finalA_out m ρ c).trans ?_),
    (h.1 c 0).trans (Cert.Moe.finalA_in m ρ c 0 (by decide)), (h.1 c 1).trans (Cert.Moe.finalA_in m ρ c 1 (by decide)),
    (h.1 c 2).trans (Cert.Moe.finalA_in m ρ c 2 (by decide)), (h.1 c 3).trans (Cert.Moe.finalA_in m ρ c 3 (by decide))⟩) (Cert.Moe.run_main (F := Ideal) m ρ)
  obtain ⟨pX, pR, pI⟩ := Cert.Moe.pre_parts _ _ _ _ (hpre c)
  funext j
  obtain ⟨n, l, rfl⟩ : ∃ (n : Fin 2048) (l : Fin 1024), j = ix2 n l := ⟨j 0, j 1, eq_ix2 j⟩
  refine (Cert.Moe.equation m ρ (m' ((0 : Dev Cert.ReferenceIdeal.nD).tc.loc Cert.ReferenceIdeal.main_arg0))
    (m' ((0 : Dev Cert.ReferenceIdeal.nD).tc.loc Cert.ReferenceIdeal.main_arg1)) (m' ((0 : Dev Cert.ReferenceIdeal.nD).tc.loc Cert.ReferenceIdeal.main_arg2))
    (m' ((0 : Dev Cert.ReferenceIdeal.nD).tc.loc Cert.ReferenceIdeal.main_arg3)) c ?_ (hargs c).2.1 ?_ ?_ pX pR pI n l).trans ?_
  · exact fun n q => (congrFun (hargs c).1 (ix2 n q)).trans (congrArg _ (Cert.Moe.idx_row _ c n q))
  · exact fun n k => (congrFun (hargs c).2.2.1 (ix2 n k)).trans (congrArg _ (Cert.Moe.idx_row _ c n k))
  · intro E q l
    refine (congrFun (hargs ⟨E.val / 8, by show E.val / 8 < 16; have := E.isLt; omega⟩).2.2.2 (ix3 ⟨E.val % 8, by omega⟩ q l)).trans
      (congrArg _ ((Cert.Moe.idx_slab _ _ _ q l).trans ?_))
    exact congrArg (fun e : Fin 128 => ix3 e q l) (Fin.ext (by show 8 * (E.val / 8) + E.val % 8 = E.val; omega))
  · rw [← Cert.ReferenceIdeal.Read.val_main_v68_eq]
    exact (congrArg (Cert.ReferenceIdeal.Value.res_main_v68 m' 0) (Cert.Moe.idx_row _ c n l)).symm

theorem claim : Cert.Claim := ⟨Cert.Kernel.Gen.facts, Cert.KernelIdeal.Gen.facts, Cert.ReferenceIdeal.Gen.facts,
  Cert.Pre_finite_and_in_range_KernelIdeal.Gen.facts, Cert.Pre_finite_and_in_range_ReferenceIdeal.Gen.facts,
  frame_kernel, frame_kernelIdeal, fun m ρ _ => frame_kernelIdeal m ρ trivial, frame_reference,
  fun m ρ _ => frame_reference m ρ trivial, trivial, value⟩

end Cert.Proof

end
